-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_mask [hPre_above_mask : Cert.Pre_above_mask.Facts] (m : (ℓ : Loc Cert.KernelIdeal.nD Cert.KernelIdeal.τ Cert.KernelIdeal.sig) → Buf (Elt Ideal) ℓ) : Prop :=
  ∀ c : Dev Cert.KernelIdeal.nD,
    (Cert.Pre_above_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_mask [hPre_above_mask : Cert.Pre_above_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_above_mask [hKernelIdeal : Cert.KernelIdeal.Facts] [hPre_above_mask : Cert.Pre_above_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_above_mask [hReferenceIdeal : Cert.ReferenceIdeal.Facts] [hPre_above_mask : Cert.Pre_above_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_above_mask [hKernelIdeal : Cert.KernelIdeal.Facts] [hReferenceIdeal : Cert.ReferenceIdeal.Facts] [hPre_above_mask : Cert.Pre_above_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_above_mask : Cert.Pre_above_mask.Facts),
    quiescent_Kernel (hKernel := hKernel)
    ∧ quiescent_KernelIdeal (hKernelIdeal := hKernelIdeal)
    ∧ quiescent_KernelIdeal_pre_above_mask (hKernelIdeal := hKernelIdeal) (hPre_above_mask := hPre_above_mask)
    ∧ quiescent_ReferenceIdeal (hReferenceIdeal := hReferenceIdeal)
    ∧ quiescent_ReferenceIdeal_pre_above_mask (hReferenceIdeal := hReferenceIdeal) (hPre_above_mask := hPre_above_mask)
    ∧ preserves_Kernel_KernelIdeal
    ∧ algebraic_KernelIdeal_ReferenceIdeal_pre_above_mask (hKernelIdeal := hKernelIdeal) (hReferenceIdeal := hReferenceIdeal) (hPre_above_mask := hPre_above_mask)
-- ==== Pre_above_mask.lean ====
abbrev S128x32768x1 : Shape := ⟨3, ![128, 32768, 1]⟩
abbrev S_ : Shape := ⟨0, ![]⟩

class Facts : Prop where
  bcast_S_S128x32768x1 : S_.BroadcastsInDim S128x32768x1 (![] : Fin 0 → Fin S128x32768x1.rank)
  reducesTo_S128x32768x1_S_d0_1_2 : S128x32768x1.ReducesTo [0, 1, 2] S_
  h_S_ : 0 < S_.numel

variable [Facts]

def fn {F : FTy → Type} [FloatOps F] (main_arg0 : FVec F S128x32768x1 .f32) (main_arg1 : FVec F S128x32768x1 .f32) : IVec S_ 1 :=
  let main_cst : FVec F S_ .f32 := constant S_ .f32 0xBF800000#32
  let main_v0 : FVec F S128x32768x1 .f32 := broadcastInDim S128x32768x1 ![] bcast_S_S128x32768x1 main_cst
  let main_v1 : IVec S128x32768x1 1 := cmpf .ogt main_arg0 main_v0
  let main_c : IVec S_ 1 := constantI S_ 1 1#1
  let main_v2 : IVec S_ 1 := (fun x v => Host.reduce IntOp.andi x v reducesTo_S128x32768x1_S_d0_1_2 h_S_) main_v1 main_c
  let main_cst_0 : FVec F S_ .f32 := constant S_ .f32 0xBF800000#32
  let main_v3 : FVec F S128x32768x1 .f32 := broadcastInDim S128x32768x1 ![] bcast_S_S128x32768x1 main_cst_0
  let main_v4 : IVec S128x32768x1 1 := cmpf .ogt main_arg1 main_v3
  let main_c_1 : IVec S_ 1 := constantI S_ 1 1#1
  let main_v5 : IVec S_ 1 := (fun x v => Host.reduce IntOp.andi x v reducesTo_S128x32768x1_S_d0_1_2 h_S_) main_v4 main_c_1
  let main_v6 : IVec S_ 1 := andi main_v2 main_v5
  main_v6
-- ==== Kernel.lean ====
abbrev S128x32768x1 : Shape := ⟨3, ![128, 32768, 1]⟩
abbrev S128x32768 : Shape := ⟨2, ![128, 32768]⟩
abbrev S3 : Shape := ⟨1, ![3]⟩
abbrev S8x32768 : Shape := ⟨2, ![8, 32768]⟩
abbrev S1x32768 : Shape := ⟨2, ![1, 32768]⟩
abbrev S2 : Shape := ⟨1, ![2]⟩
abbrev S1 : Shape := ⟨1, ![1]⟩
abbrev S8 : Shape := ⟨1, ![8]⟩
abbrev S1x8 : Shape := ⟨2, ![1, 8]⟩
abbrev S1x1 : Shape := ⟨2, ![1, 1]⟩
abbrev S8x1 : Shape := ⟨2, ![8, 1]⟩
abbrev S32768 : Shape := ⟨1, ![32768]⟩
abbrev S1x1x32768 : Shape := ⟨3, ![1, 1, 32768]⟩
abbrev S1x1x1 : Shape := ⟨3, ![1, 1, 1]⟩
abbrev S_ : Shape := ⟨0, ![]⟩

abbrev nBuf : Space → Nat
  | .hbm => 11
  | .vmem => 6
  | .smem => 2
  | _ => 0

abbrev bufTy : (tb : Table) → Fin (tcTables nBuf tb) → BufTy
  | .hbm, ⟨0, _⟩ => ⟨S128x32768x1, .f32⟩
  | .hbm, ⟨1, _⟩ => ⟨S128x32768x1, .f32⟩
  | .hbm, ⟨2, _⟩ => ⟨S128x32768, .f32⟩
  | .hbm, ⟨3, _⟩ => ⟨S128x32768, .f32⟩
  | .hbm, ⟨4, _⟩ => ⟨S3, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .local _ .vmem, ⟨0, _⟩ => ⟨S8x32768, .f32⟩
  | .local _ .vmem, ⟨1, _⟩ => ⟨S8x32768, .f32⟩
  | .local _ .vmem, ⟨2, _⟩ => ⟨S8x32768, .f32⟩
  | .local _ .vmem, ⟨3, _⟩ => ⟨S8x32768, .f32⟩
  | .local _ .vmem, ⟨4, _⟩ => ⟨S1x32768, .f32⟩
  | .local _ .vmem, ⟨5, _⟩ => ⟨S1x32768, .f32⟩
  | .local _ .smem, ⟨0, _⟩ => ⟨S3, .f32⟩
  | .local _ .smem, ⟨1, _⟩ => ⟨S2, .f32⟩
  | _, _ => ⟨S128x32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v210 : BitVec 1 := Scalar.cmpi .eq arg0 c15_i32
  let v211 : BitVec 32 := Scalar.extui v210
  let c0_i32_67 : BitVec 32 := 0#32
  let v212 : BitVec 1 := Scalar.cmpi .ne v211 c0_i32_67
  v212

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S128x32768x1 : Shape := ⟨3, ![128, 32768, 1]⟩
abbrev S128x32768 : Shape := ⟨2, ![128, 32768]⟩
abbrev S_ : Shape := ⟨0, ![]⟩
abbrev S128 : Shape := ⟨1, ![128]⟩
abbrev S128x1 : Shape := ⟨2, ![128, 1]⟩
abbrev S128x5 : Shape := ⟨2, ![128, 5]⟩
abbrev S128x5x1 : Shape := ⟨3, ![128, 5, 1]⟩
abbrev S128x5x2 : Shape := ⟨3, ![128, 5, 2]⟩
abbrev S32768 : Shape := ⟨1, ![32768]⟩
abbrev S1 : Shape := ⟨1, ![1]⟩

abbrev nBuf : Space → Nat
  | .hbm => 176
  | .vmem => 0
  | .smem => 0
  | _ => 0

abbrev hbmTy0_0 (i : Nat) : BufTy := match i % 128 with
  | 0 => ⟨S128x32768x1, .f32⟩
  | 1 => ⟨S128x32768x1, .f32⟩
  | 2 => ⟨S128x32768, .f32⟩
  | 3 => ⟨S128x32768, .f32⟩
  | 4 => ⟨S_, .f32⟩
  | 5 => ⟨S128, .f32⟩
  | 6 => ⟨S_, .f32⟩
  | 7 => ⟨S128, .f32⟩
  | 8 => ⟨S128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S128x32768, .f32⟩
  | 22 => ⟨S128x32768, .f32⟩
  | 23 => ⟨S128x32768, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S128x1, .f32⟩
  | 41 => ⟨S_, .f32⟩
  | 42 => ⟨S128x1, .f32⟩
  | 43 => ⟨S128x1, .f32⟩
  | 44 => ⟨S128x32768, .f32⟩
  | 45 => ⟨S128x32768, .f32⟩
  | 46 => ⟨S128x32768, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S128, .f32⟩
  | 61 => ⟨S128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S_, .f32⟩
  | 69 => ⟨S_, .f32⟩
  | 70 => ⟨S_, .f32⟩
  | 71 => ⟨S_, .f32⟩
  | 72 => ⟨S_, .f32⟩
  | 73 => ⟨S128x5, .f32⟩
  | 74 => ⟨S128x5, .i32⟩
  | 75 => ⟨S_, .f32⟩
  | 76 => ⟨S128x32768, .f32⟩
  | 77 => ⟨S128, .i32⟩
  | 78 => ⟨S128x1, .i32⟩
  | 79 => ⟨S_, .i32⟩
  | 80 => ⟨S128x1, .i32⟩
  | 81 => ⟨S128x1, .i1⟩
  | 82 => ⟨S_, .i32⟩
  | 83 => ⟨S128x1, .i32⟩
  | 84 => ⟨S128x1, .i32⟩
  | 85 => ⟨S128x1, .i32⟩
  | 86 => ⟨S_, .i32⟩
  | 87 => ⟨S128x5, .i32⟩
  | 88 => ⟨S128x5, .i1⟩
  | 89 => ⟨S_, .i32⟩
  | 90 => ⟨S128x5, .i32⟩
  | 91 => ⟨S128x5, .i32⟩
  | 92 => ⟨S128x5, .i32⟩
  | 93 => ⟨S128x5, .i32⟩
  | 94 => ⟨S128x5x1, .i32⟩
  | 95 => ⟨S128x5x1, .i32⟩
  | 96 => ⟨S128x5x2, .i32⟩
  | 97 => ⟨S_, .f32⟩
  | 98 => ⟨S128x5, .f32⟩
  | 99 => ⟨S128x32768, .f32⟩
  | 100 => ⟨S128x5, .f32⟩
  | 101 => ⟨S128x5, .i32⟩
  | 102 => ⟨S_, .f32⟩
  | 103 => ⟨S128x32768, .f32⟩
  | 104 => ⟨S128, .i32⟩
  | 105 => ⟨S128x1, .i32⟩
  | 106 => ⟨S_, .i32⟩
  | 107 => ⟨S128x1, .i32⟩
  | 108 => ⟨S128x1, .i1⟩
  | 109 => ⟨S_, .i32⟩
  | 110 => ⟨S128x1, .i32⟩
  | 111 => ⟨S128x1, .i32⟩
  | 112 => ⟨S128x1, .i32⟩
  | 113 => ⟨S_, .i32⟩
  | 114 => ⟨S128x5, .i32⟩
  | 115 => ⟨S128x5, .i1⟩
  | 116 => ⟨S_, .i32⟩
  | 117 => ⟨S128x5, .i32⟩
  | 118 => ⟨S128x5, .i32⟩
  | 119 => ⟨S128x5, .i32⟩
  | 120 => ⟨S128x5, .i32⟩
  | 121 => ⟨S128x5x1, .i32⟩
  | 122 => ⟨S128x5x1, .i32⟩
  | 123 => ⟨S128x5x2, .i32⟩
  | 124 => ⟨S_, .f32⟩
  | 125 => ⟨S128x5, .f32⟩
  | 126 => ⟨S128x32768, .f32⟩
  | 127 => ⟨S_, .f32⟩
  | _ => ⟨S128x32768x1, .f32⟩

abbrev hbmTy0_1 (i : Nat) : BufTy := match i % 128 with
  | 0 => ⟨S32768, .f32⟩
  | 1 => ⟨S_, .f32⟩
  | 2 => ⟨S32768, .f32⟩
  | 3 => ⟨S32768, .f32⟩
  | 4 => ⟨S_, .f32⟩
  | 5 => ⟨S32768, .f32⟩
  | 6 => ⟨S_, .f32⟩
  | 7 => ⟨S32768, .f32⟩
  | 8 => ⟨S32768, .f32⟩
  | 9 => ⟨S_, .f32⟩
  | 10 => ⟨S_, .f32⟩
  | 11 => ⟨S_, .f32⟩
  | 12 => ⟨S_, .f32⟩
  | 13 => ⟨S1, .f32⟩
  | 14 => ⟨S32768, .f32⟩
  | 15 => ⟨S32768, .f32⟩
  | 16 => ⟨S32768, .f32⟩
  | 17 => ⟨S_, .f32⟩
  | 18 => ⟨S_, .f32⟩
  | 19 => ⟨S1, .f32⟩
  | 20 => ⟨S1, .f32⟩
  | 21 => ⟨S32768, .f32⟩
  | 22 => ⟨S32768, .f32⟩
  | 23 => ⟨S_, .f32⟩
  | 24 => ⟨S_, .f32⟩
  | 25 => ⟨S_, .f32⟩
  | 26 => ⟨S_, .f32⟩
  | 27 => ⟨S1, .f32⟩
  | 28 => ⟨S32768, .f32⟩
  | 29 => ⟨S32768, .f32⟩
  | 30 => ⟨S32768, .f32⟩
  | 31 => ⟨S_, .f32⟩
  | 32 => ⟨S_, .f32⟩
  | 33 => ⟨S1, .f32⟩
  | 34 => ⟨S32768, .f32⟩
  | 35 => ⟨S32768, .f32⟩
  | 36 => ⟨S32768, .f32⟩
  | 37 => ⟨S32768, .f32⟩
  | 38 => ⟨S32768, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S128x32768x1, .f32⟩

abbrev hbmTy (i : Nat) : BufTy := match i / 128 with
  | 0 => hbmTy0_0 i
  | 1 => hbmTy0_1 i
  | _ => ⟨S128x32768x1, .f32⟩

abbrev bufTy : (tb : Table) → Fin (tcTables nBuf tb) → BufTy
  | .hbm, ⟨i, _⟩ => hbmTy i
  | _, _ => ⟨S128x32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v8 : Ref sig .tc := ⟨.hbm, 36, rfl⟩
abbrev main_c_3 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_cst_1 : Ref sig .tc := ⟨.hbm, 48, rfl⟩
abbrev main_call1_v8 : Ref sig .tc := ⟨.hbm, 49, rfl⟩
abbrev main_call1_cst_2 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_cst_3 : Ref sig .tc := ⟨.hbm, 54, rfl⟩
abbrev main_call1_v12 : Ref sig .tc := ⟨.hbm, 55, rfl⟩
abbrev main_call1_cst_4 : Ref sig .tc := ⟨.hbm, 56, rfl⟩
abbrev main_call1_call0_v0 : Ref sig .tc := ⟨.hbm, 57, rfl⟩
abbrev main_call1_call0_v1 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_4 : Ref sig .tc := ⟨.hbm, 62, rfl⟩
abbrev main_v12 : Ref sig .tc := ⟨.hbm, 63, rfl⟩
abbrev main_cst_5 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_6 : Ref sig .tc := ⟨.hbm, 68, rfl⟩
abbrev main_v16 : Ref sig .tc := ⟨.hbm, 69, rfl⟩
abbrev main_cst_7 : Ref sig .tc := ⟨.hbm, 70, rfl⟩
abbrev main_v17 : Ref sig .tc := ⟨.hbm, 71, rfl⟩
abbrev main_v18 : Ref sig .tc := ⟨.hbm, 72, rfl⟩
abbrev main_values : Ref sig .tc := ⟨.hbm, 73, rfl⟩
abbrev main_indices : Ref sig .tc := ⟨.hbm, 74, rfl⟩
abbrev main_cst_8 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_c_9 : Ref sig .tc := ⟨.hbm, 79, rfl⟩
abbrev main_v22 : Ref sig .tc := ⟨.hbm, 80, rfl⟩
abbrev main_v23 : Ref sig .tc := ⟨.hbm, 81, rfl⟩
abbrev main_c_10 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_c_11 : Ref sig .tc := ⟨.hbm, 86, rfl⟩
abbrev main_v27 : Ref sig .tc := ⟨.hbm, 87, rfl⟩
abbrev main_v28 : Ref sig .tc := ⟨.hbm, 88, rfl⟩
abbrev main_c_12 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_cst_13 : Ref sig .tc := ⟨.hbm, 97, rfl⟩
abbrev main_v36 : Ref sig .tc := ⟨.hbm, 98, rfl⟩
abbrev main_v37 : Ref sig .tc := ⟨.hbm, 99, rfl⟩
abbrev main_values_14 : Ref sig .tc := ⟨.hbm, 100, rfl⟩
abbrev main_indices_15 : Ref sig .tc := ⟨.hbm, 101, rfl⟩
abbrev main_cst_16 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_c_17 : Ref sig .tc := ⟨.hbm, 106, rfl⟩
abbrev main_v41 : Ref sig .tc := ⟨.hbm, 107, rfl⟩
abbrev main_v42 : Ref sig .tc := ⟨.hbm, 108, rfl⟩
abbrev main_c_18 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_c_19 : Ref sig .tc := ⟨.hbm, 113, rfl⟩
abbrev main_v46 : Ref sig .tc := ⟨.hbm, 114, rfl⟩
abbrev main_v47 : Ref sig .tc := ⟨.hbm, 115, rfl⟩
abbrev main_c_20 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_21 : Ref sig .tc := ⟨.hbm, 124, rfl⟩
abbrev main_v55 : Ref sig .tc := ⟨.hbm, 125, rfl⟩
abbrev main_v56 : Ref sig .tc := ⟨.hbm, 126, rfl⟩
abbrev main_cst_22 : Ref sig .tc := ⟨.hbm, 127, rfl⟩
abbrev main_v57 : Ref sig .tc := ⟨.hbm, 128, rfl⟩
abbrev main_cst_23 : Ref sig .tc := ⟨.hbm, 129, rfl⟩
abbrev main_v58 : Ref sig .tc := ⟨.hbm, 130, rfl⟩
abbrev main_v59 : Ref sig .tc := ⟨.hbm, 131, rfl⟩
abbrev main_cst_24 : Ref sig .tc := ⟨.hbm, 132, rfl⟩
abbrev main_v60 : Ref sig .tc := ⟨.hbm, 133, rfl⟩
abbrev main_cst_25 : Ref sig .tc := ⟨.hbm, 134, rfl⟩
abbrev main_v61 : Ref sig .tc := ⟨.hbm, 135, rfl⟩
abbrev main_v62 : Ref sig .tc := ⟨.hbm, 136, rfl⟩
abbrev main_call2_cst : Ref sig .tc := ⟨.hbm, 137, rfl⟩
abbrev main_call2_v0 : Ref sig .tc := ⟨.hbm, 138, rfl⟩
abbrev main_call2_cst_0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_cst_1 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_v9 : Ref sig .tc := ⟨.hbm, 149, rfl⟩
abbrev main_v63 : Ref sig .tc := ⟨.hbm, 150, rfl⟩
abbrev main_cst_26 : Ref sig .tc := ⟨.hbm, 151, rfl⟩
abbrev main_v64 : Ref sig .tc := ⟨.hbm, 152, rfl⟩
abbrev main_cst_27 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_cst_28 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_cst_29 : Ref sig .tc := ⟨.hbm, 167, rfl⟩
abbrev main_v77 : Ref sig .tc := ⟨.hbm, 168, rfl⟩
abbrev main_cst_30 : Ref sig .tc := ⟨.hbm, 169, rfl⟩
abbrev main_v78 : Ref sig .tc := ⟨.hbm, 170, rfl⟩
abbrev main_cst_31 : Ref sig .tc := ⟨.hbm, 171, rfl⟩
abbrev main_v79 : Ref sig .tc := ⟨.hbm, 172, rfl⟩
abbrev main_cst_32 : Ref sig .tc := ⟨.hbm, 173, rfl⟩
abbrev main_v80 : Ref sig .tc := ⟨.hbm, 174, rfl⟩
abbrev main_v81 : Ref sig .tc := ⟨.hbm, 175, rfl⟩

abbrev nD : Nat := 1
abbrev τ : Topo := Topo.v7x

variable {F : FTy → Type} [FloatOps F]
-- ==== Proof.KernelCases.lean ====
/-
  What ONE grid point of the kernel leaves in the buffers it carries: the histogram of each input (a [1, 32768] row) and the two running
  sums of squared differences (a pair of scalars), each as a plain function of the point's two [8, 32768] blocks and of what the point before
  left; and, at the last point, the three scalars it stores into the result.
-/
module

public import proofs.«01_k».proof.Defs
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.WritesUnit
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- The column numbers of a block. -/
abbrev cols : IVec S8x32768 32 := iota .tc S8x32768 32 [1] iota_S8x32768_d1_w32

/-- The first input's histogram after a point: the histogram before, plus the block's picks. -/
def step1 (x : Vec F S8x32768 .f32) (h : Vec F S1x32768 .f32) : Vec F S1x32768 .f32 :=
  k0_pay20 cols (k0_pay17 (k0_pay7 x)) (k0_pay18 (k0_pay7 x)) (k0_pay19 (k0_pay7 x)) 32768#32 h

/-- The second input's histogram after a point. -/
def step2 (x : Vec F S8x32768 .f32) (h : Vec F S1x32768 .f32) : Vec F S1x32768 .f32 :=
  k0_pay1 cols (k0_pay26 (k0_pay8 x) cols) (k0_pay27 (k0_pay8 x) cols) h

/-- The running sum of squared mean differences after a point. -/
abbrev stepM (x y : Vec F S8x32768 .f32) (s : F .f32) : F .f32 := k0_pay12 x y s

/-- The running sum of squared variance differences after a point. -/
abbrev stepV (x y : Vec F S8x32768 .f32) (s : F .f32) : F .f32 := k0_pay13 (k0_pay11 x y) s

/-- The two places of the pair. -/
def cell (k : Fin 2) : S2.Idx := fun a => match a with | ⟨0, _⟩ => k

/-- The zero the kernel starts its sums from. -/
abbrev zero : F .f32 := Scalar.ofBits .f32 0x00000000#32

/-- A pair of scalars, as the kernel keeps it. -/
def pair (a b : F .f32) : Vec F S2 .f32 := fun y => if (y 0).val = 1 then b else a

/-- Contents written by one-element stores, the latest first: an element is the latest store at its place, or what the earlier stores left. -/
theorem canon_cell {n k : ℕ} (inb : ∀ a, (![k] : Fin 1 → ℕ) a + (![1] : Fin 1 → ℕ) a ≤ (⟨1, ![n]⟩ : Shape).size a) (w : F .f32)
    (L : List (View.Piece (Elt F) ⟨1, ![n]⟩ .f32)) (y : (⟨1, ![n]⟩ : Shape).Idx) :
    View.canon (Val := Elt F) (e := .f32) (⟨Rect.unit ![k] ![1] inb, fun _ => w⟩ :: L) y = if (y 0).val = k then w else View.canon L y := by
  split
  · rename_i h
    have hy : y = (Rect.unit (s := ⟨1, ![n]⟩) ![k] ![1] inb).emb (fun _ => ⟨0, by simp [Rect.unit]⟩) := by
      funext a
      apply Fin.ext
      match a with
      | ⟨0, _⟩ => show (y 0).val = k + 1 * 0; omega
    rw [hy]
    exact View.canon_cons_emb _ _ _ _
  · rename_i h
    refine View.canon_cons_of_not_mem _ _ fun hm => h ?_
    have h0 := (Rect.mem_set_unit (inb := inb)).mp hm 0
    have h1 : k ≤ (y 0).val ∧ (y 0).val < k + 1 := h0
    omega

section cases
variable (c : Dev nD) (i : grid0.Coords) (a1 : Memref sig .tc .vmem S8x32768 .f32) (h1 : a1.IsWhole) (a2 : Memref sig .tc .vmem S8x32768 .f32)
  (h2 : a2.IsWhole) (a3 : Memref sig .tc .smem S3 .f32) (h3 : a3.IsWhole) (a4 : Memref sig .tc .vmem S1x32768 .f32) (h4 : a4.IsWhole)
  (a5 : Memref sig .tc .vmem S1x32768 .f32) (h5 : a5.IsWhole) (a6 : Memref sig .tc .smem S2 .f32) (h6 : a6.IsWhole)
  (x0 x1 : Vec F S8x32768 .f32) (xs0 xs1 : Vec F S1x32768 .f32) (xs2 : Vec F S2 .f32)

/-- The first point starts from zeros and adds its block's picks to the first histogram. -/
theorem sout_A_0 (hc0 : cond0_0 i) (hc1 : ¬cond0_1 i) :
    sout0_A_0 c i a1 h1 a2 h2 a3 h3 a4 h4 a5 h5 a6 h6 hc0 hc1 x0 x1 = step1 x0 k0_pay5 := by
  frame_out
  rfl

/-- The first point starts from zeros and adds its block's picks to the second histogram. -/
theorem sout_A_1 (hc0 : cond0_0 i) (hc1 : ¬cond0_1 i) :
    sout0_A_1 c i a1 h1 a2 h2 a3 h3 a4 h4 a5 h5 a6 h6 hc0 hc1 x0 x1 = step2 x1 k0_pay6 := by
  frame_out
  rfl

/-- The first point starts from zeros and adds its block's two sums of squares. -/
theorem sout_A_2 (hc0 : cond0_0 i) (hc1 : ¬cond0_1 i) :
    sout0_A_2 c i a1 h1 a2 h2 a3 h3 a4 h4 a5 h5 a6 h6 hc0 hc1 x0 x1 = pair (stepM x0 x1 zero) (stepV x0 x1 zero) := by
  frame_out
  funext y
  have hy : (y 0).val < 2 := (y 0).isLt
  refine (canon_cell _ _ _ y).trans ?_
  unfold pair
  by_cases hk : (y 0).val = 1
  · rw [if_pos hk, if_pos hk]
  · rw [if_neg hk, if_neg hk]
    refine (canon_cell _ _ _ y).trans ?_
    rw [if_pos (by omega)]

/-- A middle point adds its block's picks to the first histogram. -/
theorem sout_B_0 (hc0 : ¬cond0_0 i) (hc1 : ¬cond0_1 i) :
    sout0_B_0 c i a1 h1 a2 h2 a3 h3 a4 h4 a5 h5 a6 h6 hc0 hc1 x0 x1 xs0 xs1 xs2 = step1 x0 xs0 := by
  frame_out
  rfl

/-- A middle point adds its block's picks to the second histogram. -/
theorem sout_B_1 (hc0 : ¬cond0_0 i) (hc1 : ¬cond0_1 i) :
    sout0_B_1 c i a1 h1 a2 h2 a3 h3 a4 h4 a5 h5 a6 h6 hc0 hc1 x0 x1 xs0 xs1 xs2 = step2 x1 xs1 := by
  frame_out
  rfl

/-- A middle point adds its block's two sums of squares. -/
theorem sout_B_2 (hc0 : ¬cond0_0 i) (hc1 : ¬cond0_1 i) :
    sout0_B_2 c i a1 h1 a2 h2 a3 h3 a4 h4 a5 h5 a6 h6 hc0 hc1 x0 x1 xs0 xs1 xs2 = pair (stepM x0 x1 (xs2 (cell 0))) (stepV x0 x1 (xs2 (cell 1))) := by
  frame_out
  funext y
  have hy : (y 0).val < 2 := (y 0).isLt
  refine (canon_cell _ _ _ y).trans ?_
  unfold pair
  by_cases hk : (y 0).val = 1
  · rw [if_pos hk, if_pos hk]
    exact congrArg _ (congrArg xs2 (funext fun a => Fin.ext (by match a with | ⟨0, _⟩ => rfl)))
  · rw [if_neg hk, if_neg hk]
    refine (canon_cell _ _ _ y).trans ?_
    rw [if_pos (by omega)]
    exact congrArg _ (congrArg xs2 (funext fun a => Fin.ext (by match a with | ⟨0, _⟩ => rfl)))

/-- The last point adds its block's picks to the first histogram. -/
theorem sout_C_0 (hc0 : ¬cond0_0 i) (hc1 : cond0_1 i) :
    sout0_C_0 c i a1 h1 a2 h2 a3 h3 a4 h4 a5 h5 a6 h6 hc0 hc1 x0 x1 xs0 xs1 xs2 = step1 x0 xs0 := by
  frame_out
  rfl

/-- The last point adds its block's picks to the second histogram. -/
theorem sout_C_1 (hc0 : ¬cond0_0 i) (hc1 : cond0_1 i) :
    sout0_C_1 c i a1 h1 a2 h2 a3 h3 a4 h4 a5 h5 a6 h6 hc0 hc1 x0 x1 xs0 xs1 xs2 = step2 x1 xs1 := by
  frame_out
  rfl

/-- The last point adds its block's two sums of squares. -/
theorem sout_C_2 (hc0 : ¬cond0_0 i) (hc1 : cond0_1 i) :
    sout0_C_2 c i a1 h1 a2 h2 a3 h3 a4 h4 a5 h5 a6 h6 hc0 hc1 x0 x1 xs0 xs1 xs2 = pair (stepM x0 x1 (xs2 (cell 0))) (stepV x0 x1 (xs2 (cell 1))) := by
  frame_out
  funext y
  have hy : (y 0).val < 2 := (y 0).isLt
  refine (canon_cell _ _ _ y).trans ?_
  unfold pair
  by_cases hk : (y 0).val = 1
  · rw [if_pos hk, if_pos hk]
    exact congrArg _ (congrArg xs2 (funext fun a => Fin.ext (by match a with | ⟨0, _⟩ => rfl)))
  · rw [if_neg hk, if_neg hk]
    refine (canon_cell _ _ _ y).trans ?_
    rw [if_pos (by omega)]
    exact congrArg _ (congrArg xs2 (funext fun a => Fin.ext (by match a with | ⟨0, _⟩ => rfl)))

/-- The three scalars the last point stores: the total, the distance part, the correlation part. -/
def trip (h1 h2 : Vec F S1x32768 .f32) (sm sv : F .f32) : Vec F S3 .f32 := fun y =>
  if (y 0).val = 2 then k0_pay2 h1 h2 else if (y 0).val = 1 then k0_pay3 sm sv else k0_pay4 h1 h2 sm sv

/-- The last point stores those of what it leaves in the carried buffers. -/
theorem out_C_2 (hc0 : ¬cond0_0 i) (hc1 : cond0_1 i) :
    out0_C_2 c i a1 h1 a2 h2 a3 h3 a4 h4 a5 h5 a6 h6 hc0 hc1 x0 x1 xs0 xs1 xs2 = trip (step1 x0 xs0) (step2 x1 xs1) (stepM x0 x1 (xs2 (cell 0))) (stepV x0 x1 (xs2 (cell 1))) := by
  frame_out
  have e0 : ∀ hp, View.ld xs2 (Rect.unit ![0] ![1] inb_S2_S1_0) (Shape.Idx.first hp) = xs2 (cell 0) := fun hp =>
    congrArg xs2 (funext fun a => Fin.ext (by match a with | ⟨0, _⟩ => rfl))
  have e1 : ∀ hp, View.ld xs2 (Rect.unit ![1] ![1] inb_S2_S1_1) (Shape.Idx.first hp) = xs2 (cell 1) := fun hp =>
    congrArg xs2 (funext fun a => Fin.ext (by match a with | ⟨0, _⟩ => rfl))
  simp only [e0, e1]
  funext y
  have hy : (y 0).val < 3 := (y 0).isLt
  unfold trip
  refine (canon_cell _ _ _ y).trans ?_
  by_cases h2 : (y 0).val = 2
  · rw [if_pos h2, if_pos h2]; rfl
  rw [if_neg h2, if_neg h2]
  refine (canon_cell _ _ _ y).trans ?_
  by_cases h1 : (y 0).val = 1
  · rw [if_pos h1, if_pos h1]
  rw [if_neg h1, if_neg h1]
  refine (canon_cell _ _ _ y).trans ?_
  rw [if_pos (by omega)]
  rfl

end cases

end Cert.KernelIdeal.Value
-- ==== Proof.KernelRun.lean ====
/-
  THE KERNEL'S RUN, READ: what the buffers carried from point to point hold after each of the sixteen points, as a recursion over the points'
  blocks of eight rows of the two inputs, and the three results as scalars of what they hold after the last.
-/
module

public import proofs.«01_k».proof.Proof.KernelCases

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- What is carried from a point to the next: the two histograms and the two sums of squares. -/
structure Carried (F : FTy → Type) where
  hist1 : Vec F S1x32768 .f32
  hist2 : Vec F S1x32768 .f32
  sm : F .f32
  sv : F .f32

/-- A point's step on a pair of blocks. -/
def Carried.step (x y : Vec F S8x32768 .f32) (s : Carried F) : Carried F :=
  ⟨step1 x s.hist1, step2 y s.hist2, stepM x y s.sm, stepV x y s.sv⟩

/-- The zeros the first point starts from. -/
def Carried.init : Carried F := ⟨k0_pay5, k0_pay6, zero, zero⟩

/-- What is carried after `n` of the blocks `x 0, y 0, x 1, y 1, …`. -/
def Carried.after (x y : ℕ → Vec F S8x32768 .f32) : ℕ → Carried F
  | 0 => Carried.init
  | n + 1 => Carried.step (x n) (y n) (Carried.after x y n)

/-- An input as the kernel sees it: 128 rows of 32768. -/
def X0 (c : Dev nD) : Vec F S128x32768 .f32 := shapeCast S128x32768 (m ((c : Thread nD τ).loc main_arg0)) shapeCasts_S128x32768x1_S128x32768
/-- The other input. -/
def X1 (c : Dev nD) : Vec F S128x32768 .f32 := shapeCast S128x32768 (m ((c : Thread nD τ).loc main_arg1)) shapeCasts_S128x32768x1_S128x32768

/-- Rows `8 n, …, 8 n + 7` of an array of 128 rows (counted round past the last). -/
def rowsOf (X : Vec F S128x32768 .f32) (n : ℕ) : Vec F S8x32768 .f32 := fun j =>
  X (ValueIdx.ix2 (⟨(8 * n + (j 0).val) % 128, Nat.mod_lt _ (by decide)⟩ : Fin 128) (j 1 : Fin 32768))

theorem V_v0 (c : Dev nD) : V m c main_v0 = X0 m c := by
  unfold V V0
  simp only [List.flatten_cons, List.flatten_nil, List.append_nil]
  after_results_simp
  rfl

theorem V_v1 (c : Dev nD) : V m c main_v1 = X1 m c := by
  unfold V V0
  simp only [List.flatten_cons, List.flatten_nil, List.append_nil]
  after_results_simp
  rfl

theorem index0 : ∀ t : Fin cfg0.N, (win0_0.index t 0 = t.val ∧ win0_0.index t 1 = 0) ∧ (win0_1.index t 0 = t.val ∧ win0_1.index t 1 = 0) := by
  decide +kernel

/-- The block a point reads of the first input is its eight rows. -/
theorem iblk0_eq (c : Dev nD) (t : Fin cfg0.N) : (iblk m c 0 t : Vec F S8x32768 .f32) = rowsOf (X0 m c) t.val := by
  have hN : t.val < 16 := Nat.lt_of_lt_of_eq t.isLt N_0
  have hi := (index0 t).1
  funext j
  unfold iblk rowsOf
  rw [View.read_apply]
  show V m c main_v0 _ = _
  rw [V_v0]
  congr 1
  funext a
  apply Fin.ext
  have h0 : (j 0).val < 8 := (j 0).isLt
  match a with
  | ⟨0, _⟩ => show win0_0.index t 0 * 8 + 1 * (j 0).val = (8 * t.val + (j 0).val) % 128; rw [hi.1]; omega
  | ⟨1, _⟩ => show win0_0.index t 1 * 32768 + 1 * (j 1).val = (j 1).val; rw [hi.2]; omega

/-- And of the second. -/
theorem iblk1_eq (c : Dev nD) (t : Fin cfg0.N) : (iblk m c 1 t : Vec F S8x32768 .f32) = rowsOf (X1 m c) t.val := by
  have hN : t.val < 16 := Nat.lt_of_lt_of_eq t.isLt N_0
  have hi := (index0 t).2
  funext j
  unfold iblk rowsOf
  rw [View.read_apply]
  show V m c main_v1 _ = _
  rw [V_v1]
  congr 1
  funext a
  apply Fin.ext
  have h0 : (j 0).val < 8 := (j 0).isLt
  match a with
  | ⟨0, _⟩ => show win0_1.index t 0 * 8 + 1 * (j 0).val = (8 * t.val + (j 0).val) % 128; rw [hi.1]; omega
  | ⟨1, _⟩ => show win0_1.index t 1 * 32768 + 1 * (j 1).val = (j 1).val; rw [hi.2]; omega

/-- What the kernel carries after `n` blocks of rows of `X` and `Y`. -/
abbrev carried (X Y : Vec F S128x32768 .f32) (n : ℕ) : Carried F := Carried.after (rowsOf X) (rowsOf Y) n

/-- The carried buffers after point `n` hold what is carried after `n + 1` blocks. -/
theorem outsAt_eq (c : Dev nD) : ∀ (n : ℕ) (h : n < cfg0.N), n < 15 →
    (outsAt0 m c n h).2 = (let s := carried (X0 m c) (X1 m c) (n + 1); (s.hist1, s.hist2, pair s.sm s.sv))
  | 0, h, _ => by
    rw [outsAt0_A m c ⟨0, h⟩ rfl (by dsimp only; omega)]
    simp only [sout_A_0, sout_A_1, sout_A_2, iblk0_eq, iblk1_eq]
    rfl
  | n + 1, h, h15 => by
    have e := outsAt_eq c n (Nat.lt_of_succ_lt h) (by omega)
    rw [outsAt0_B m c ⟨n + 1, h⟩ (by dsimp only; omega) (by dsimp only; omega)]
    simp only [sout_B_0, sout_B_1, sout_B_2, Nat.add_sub_cancel, e, iblk0_eq, iblk1_eq]
    rfl

/-- The three scalars the last point stores. -/
def results (X Y : Vec F S128x32768 .f32) : Vec F S3 .f32 :=
  let s := carried X Y 16
  trip s.hist1 s.hist2 s.sm s.sv

/-- What the result's staging buffer holds after the last point. -/
theorem outsAt_last (c : Dev nD) : (outsAt0 m c t0_15.val t0_15.isLt).1 = results (X0 m c) (X1 m c) := by
  have e := outsAt_eq m c 14 (by rw [show cfg0.N = 16 from N_0]; decide) (by decide)
  have e' : (outsAt0 m c (t0_15.val - 1) (by rw [show cfg0.N = 16 from N_0]; decide)).2 = _ := e
  rw [outsAt0_C m c t0_15 (by decide) (by decide)]
  simp only [out_C_2, e', iblk0_eq, iblk1_eq]
  rfl

/-- The result array ends holding them. -/
theorem arr_v2 (c : Dev nD) : (dats m 0 c).arrAt 2 cfg0.N = (results (X0 m c) (X1 m c) : Vec F S3 .f32) := by
  refine (dats m 0 c).arrAt_eq_of_after_last 2 t0_15 (by decide +kernel) _ fun j => ?_
  blk_simp
  rw [after0_2, outsAt_last]

/-- One scalar of the three. -/
def scal (k : Fin 3) (v : Vec F S3 .f32) : Vec F S_ .f32 := fun _ => v fun a => match a with | ⟨0, _⟩ => k

/-- A slice of one element, read as a scalar. -/
theorem slice_cell (k : Fin 3) (v : Vec F S3 .f32) (hs : S3.Slices ![k.val] S1) (hc : S1.ShapeCasts S_) (i : S_.Idx) :
    shapeCast S_ (extractStridedSlice S1 ![k.val] v hs) hc i = v fun a => match a with | ⟨0, _⟩ => k := by
  unfold shapeCast extractStridedSlice
  refine congrArg v (funext fun a => Fin.ext ?_)
  have hb : ∀ z : S1.Idx, (z 0).val = 0 := fun z => Nat.lt_one_iff.mp (z 0).isLt
  match a with
  | ⟨0, _⟩ => exact (congrArg (k.val + ·) (hb _)).trans (Nat.add_zero _)

theorem tail_v4 (c : Dev nD) : Pipeline.afterTail₀ cfgs (dats m) 0 (V0 m) [hostOps1] c main_v4 = scal 0 (results (X0 m c) (X1 m c)) := by
  unfold Pipeline.afterTail₀
  simp only [List.flatten_cons, List.flatten_nil, List.append_nil]
  after_results_simp
  funext i
  rw [show Pipeline.withArrays (cfgs 0).spec c (V0 m c) (fun w => (dats m 0 c).arrAt w (cfgs 0).N) (Proc.tc.devRef main_v2)
    = (results (X0 m c) (X1 m c) : Vec F S3 .f32) from (Pipeline.withArrays_arr_shared (cfgs 0).spec c _ _
      (Dat.arrAt_sharedIn _ (by decide) _ (fun w => A_eq m c w) _) 2).trans (arr_v2 m c)]
  unfold scal
  exact slice_cell 0 _ slices_S3_S1_0 shapeCasts_S1_S_ i

theorem tail_v6 (c : Dev nD) : Pipeline.afterTail₀ cfgs (dats m) 0 (V0 m) [hostOps1] c main_v6 = scal 1 (results (X0 m c) (X1 m c)) := by
  unfold Pipeline.afterTail₀
  simp only [List.flatten_cons, List.flatten_nil, List.append_nil]
  after_results_simp
  funext i
  rw [show Pipeline.withArrays (cfgs 0).spec c (V0 m c) (fun w => (dats m 0 c).arrAt w (cfgs 0).N) (Proc.tc.devRef main_v2)
    = (results (X0 m c) (X1 m c) : Vec F S3 .f32) from (Pipeline.withArrays_arr_shared (cfgs 0).spec c _ _
      (Dat.arrAt_sharedIn _ (by decide) _ (fun w => A_eq m c w) _) 2).trans (arr_v2 m c)]
  unfold scal
  exact slice_cell 1 _ slices_S3_S1_1 shapeCasts_S1_S_ i

theorem tail_v8 (c : Dev nD) : Pipeline.afterTail₀ cfgs (dats m) 0 (V0 m) [hostOps1] c main_v8 = scal 2 (results (X0 m c) (X1 m c)) := by
  unfold Pipeline.afterTail₀
  simp only [List.flatten_cons, List.flatten_nil, List.append_nil]
  after_results_simp
  funext i
  rw [show Pipeline.withArrays (cfgs 0).spec c (V0 m c) (fun w => (dats m 0 c).arrAt w (cfgs 0).N) (Proc.tc.devRef main_v2)
    = (results (X0 m c) (X1 m c) : Vec F S3 .f32) from (Pipeline.withArrays_arr_shared (cfgs 0).spec c _ _
      (Dat.arrAt_sharedIn _ (by decide) _ (fun w => A_eq m c w) _) 2).trans (arr_v2 m c)]
  unfold scal
  exact slice_cell 2 _ slices_S3_S1_2 shapeCasts_S1_S_ i

/-- The kernel's run, read: its three results are the three scalars, its arguments unchanged. -/
theorem run : θ_run defs (onTc (τ := τ) (main (F := F))) ⟨m, fun _ => 0, ρ⟩ fun r => ∀ c : Dev nD,
      r.2.mem ((c.tc : Thread nD τ).loc main_v4) = scal 0 (results (X0 m c) (X1 m c))
      ∧ r.2.mem ((c.tc : Thread nD τ).loc main_v6) = scal 1 (results (X0 m c) (X1 m c))
      ∧ r.2.mem ((c.tc : Thread nD τ).loc main_v8) = scal 2 (results (X0 m c) (X1 m c)) :=
  (θ_run defs _ _).mono (fun _ h c =>
    ⟨((h c).2 main_v4 (Pipeline.mem_restRefs_of main_v4 (by decide) (by decide))).trans (tail_v4 m c),
     ((h c).2 main_v6 (Pipeline.mem_restRefs_of main_v6 (by decide) (by decide))).trans (tail_v6 m c),
     ((h c).2 main_v8 (Pipeline.mem_restRefs_of main_v8 (by decide) (by decide))).trans (tail_v8 m c)⟩) (run_main m ρ)

end Cert.KernelIdeal.Value
-- ==== Proof.Rounds.lean ====
/-
  One round of the kernel's search for the largest entry of each of a block's eight rows, as a function of the block, and
  the five rounds a grid point runs on each input, as five applications of that one function.
-/
module

public import proofs.«01_k».proof.Proof.KernelRun

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]

/-- The entries equal to their row's largest. -/
def isMax (x : Vec F S8x32768 .f32) : IVec S8x32768 1 :=
  cmpf .oeq x (broadcastTo S8x32768
    (shapeCast S8x1 (multiReduction .maximumf [1] S8 x 0xFF800000#32 reduces_S8x32768_S8 (.inl rfl) rfl) shapeCasts_S8_S8x1)
    broadcasts_S8x1_S8x32768)

/-- The smallest column at which a row's mark is set, or 32768 where none is. -/
def firstCol (b : IVec S8x32768 1) : IVec S8 32 :=
  multiReductionI .minsi [1] S8 (select b cols (broadcast S8x32768 32768#32)) 2147483647#32 reduces_S8x32768_S8 rfl

/-- The one entry of each row that a round picks: the first of the row's largest. -/
def hit (x : Vec F S8x32768 .f32) : IVec S8x32768 1 :=
  cmpi .eq cols (broadcastTo S8x32768 (shapeCast S8x1 (firstCol (isMax x)) shapeCasts_S8_S8x1) broadcasts_S8x1_S8x32768)

/-- The picked entry as a one, every other as a zero. -/
def mark (x : Vec F S8x32768 .f32) : Vec F S8x32768 .f32 := sitofp .f32 (extui 32 (hit x) natLt_1_32)

/-- The block with the picked entry of each row put to minus one. -/
def strike (x : Vec F S8x32768 .f32) : Vec F S8x32768 .f32 :=
  select (hit x) (broadcast S8x32768 (Scalar.ofBits .f32 0xBF800000#32)) x

/-- The marks of the first `n` rounds, added in order. -/
def marks (x : Vec F S8x32768 .f32) : ℕ → Vec F S8x32768 .f32
  | 0 => broadcast S8x32768 (Scalar.ofBits .f32 0x00000000#32)
  | n + 1 => addf (marks x n) (mark (strike^[n] x))

/-- A histogram after a block: what it was, plus the block's marks summed over its rows. -/
def addMarks (x : Vec F S8x32768 .f32) (h : Vec F S1x32768 .f32) : Vec F S1x32768 .f32 :=
  addf h (shapeCast S1x32768
    (multiReduction .add [0] S32768 (marks x 5) 0x00000000#32 reduces_S8x32768_S32768 (.inl rfl) rfl) shapeCasts_S32768_S1x32768)

/-- The marks of two more rounds, added to what is there and summed over the rows into the histogram. -/
def lastTwo (a x : Vec F S8x32768 .f32) (h : Vec F S1x32768 .f32) : Vec F S1x32768 .f32 :=
  addf h (shapeCast S1x32768
    (multiReduction .add [0] S32768 (addf (addf a (mark x)) (mark (strike x))) 0x00000000#32 reduces_S8x32768_S32768
      (.inl rfl) rfl) shapeCasts_S32768_S1x32768)

/-- One more round's marks. -/
theorem marks_succ (x : Vec F S8x32768 .f32) (n : ℕ) : marks x (n + 1) = addf (marks x n) (mark (strike^[n] x)) := by
  rw [marks]

/-- Two rounds' marks. -/
theorem marks_two (x : Vec F S8x32768 .f32) :
    marks x 2 = addf (addf (broadcast S8x32768 (Scalar.ofBits .f32 0x00000000#32)) (mark x)) (mark (strike x)) := by
  simp only [marks, Function.iterate_succ_apply', Function.iterate_zero, id]

/-- Three rounds' marks. -/
theorem marks_three (x : Vec F S8x32768 .f32) : marks x 3 = addf (marks x 2) (mark (strike (strike x))) := by
  rw [marks_succ x 2]
  simp only [Function.iterate_succ_apply', Function.iterate_zero, id]

/-- Five rounds' marks are three rounds' and the last two's. -/
theorem addMarks_eq (x : Vec F S8x32768 .f32) (h : Vec F S1x32768 .f32) :
    addMarks x h = lastTwo (marks x 3) (strike (strike (strike x))) h := by
  unfold addMarks lastTwo
  rw [marks_succ x 4, marks_succ x 3]
  simp only [Function.iterate_succ_apply', Function.iterate_zero, id]

/-- The kernel's first pick on the first input. -/
theorem pay14_eq (x : Vec F S8x32768 .f32) : k0_pay14 x = hit x := rfl

/-- The block after it. -/
theorem pay15_eq (x : Vec F S8x32768 .f32) : k0_pay15 x = strike x := rfl

/-- The second pick on the first input. -/
theorem pay16_eq (x : Vec F S8x32768 .f32) : k0_pay16 x = hit (strike x) := rfl

/-- The two picks' marks. -/
theorem pay17_eq (x : Vec F S8x32768 .f32) : k0_pay17 x = marks x 2 := by
  unfold k0_pay17
  rw [pay14_eq, pay16_eq, marks_two]
  rfl

/-- The block after both. -/
theorem pay18_eq (x : Vec F S8x32768 .f32) : k0_pay18 x = strike (strike x) := by
  unfold k0_pay18
  rw [pay15_eq, pay16_eq]
  rfl

/-- The entries equal to their row's largest, in the third round. -/
theorem pay19_eq (x : Vec F S8x32768 .f32) : k0_pay19 x = isMax (strike (strike x)) := by
  unfold k0_pay19
  rw [pay18_eq]
  rfl

/-- The last three rounds on the first input. -/
theorem pay20_eq (a x : Vec F S8x32768 .f32) (h : Vec F S1x32768 .f32) :
    k0_pay20 cols a x (isMax x) 32768#32 h = shapeCast S1x32768 (lastTwo (addf a (mark x)) (strike x) h) shapeCasts_S1x32768_S1x32768 := rfl

/-- The last two rounds on the second input. -/
theorem pay1_eq (a x : Vec F S8x32768 .f32) (h : Vec F S1x32768 .f32) :
    k0_pay1 cols a x h = shapeCast S1x32768 (lastTwo a x h) shapeCasts_S1x32768_S1x32768 := rfl

/-- The first pick on the second input. -/
theorem pay21_eq (x : Vec F S8x32768 .f32) : k0_pay21 x cols = hit x := rfl

/-- The block after it. -/
theorem pay22_eq (x : Vec F S8x32768 .f32) : k0_pay22 x cols = strike x := rfl

/-- The second pick on the second input. -/
theorem pay23_eq (x : Vec F S8x32768 .f32) : k0_pay23 x cols = hit (strike x) := rfl

/-- The block after it. -/
theorem pay24_eq (x : Vec F S8x32768 .f32) : k0_pay24 x cols = strike (strike x) := by
  unfold k0_pay24
  rw [pay22_eq, pay23_eq]
  rfl

/-- The third pick on the second input. -/
theorem pay25_eq (x : Vec F S8x32768 .f32) : k0_pay25 x cols = hit (strike (strike x)) := by
  unfold k0_pay25
  rw [pay24_eq]
  rfl

/-- The three picks' marks. -/
theorem pay26_eq (x : Vec F S8x32768 .f32) : k0_pay26 x cols = marks x 3 := by
  unfold k0_pay26
  rw [pay21_eq, pay23_eq, pay25_eq, marks_three, marks_two]
  rfl

/-- The block after the three. -/
theorem pay27_eq (x : Vec F S8x32768 .f32) : k0_pay27 x cols = strike (strike (strike x)) := by
  unfold k0_pay27
  rw [pay24_eq, pay25_eq]
  rfl

/-- What a grid point does to the first histogram. -/
theorem step1_eq (x : Vec F S8x32768 .f32) (h : Vec F S1x32768 .f32) : step1 x h = addMarks x h := by
  have e : (k0_pay7 x : Vec F S8x32768 .f32) = x := shapeCast_self _ _
  unfold step1
  rw [e, pay17_eq, pay18_eq, pay19_eq, pay20_eq, shapeCast_self, addMarks_eq, marks_three]

/-- What a grid point does to the second histogram. -/
theorem step2_eq (x : Vec F S8x32768 .f32) (h : Vec F S1x32768 .f32) : step2 x h = addMarks x h := by
  have e : (k0_pay8 x : Vec F S8x32768 .f32) = x := shapeCast_self _ _
  unfold step2
  rw [e, pay26_eq, pay27_eq, pay1_eq, shapeCast_self, addMarks_eq]

end Cert.KernelIdeal.Value

end
-- ==== Proof.TopFive.lean ====
/-
  Picking the largest entry of a row again and again, each pick struck out before the next, against sorting the row: on a
  row of entries all above the value a pick is struck out with, the first `K` picks are the first `K` positions of the
  stable sort of the row by descending value.
-/
module

public import Idealize.ShloMosaic.Lib.SortPrefix
public import Mathlib.Data.Finset.Card
public import Mathlib.Data.Fintype.Card
public import Mathlib.Order.Preorder.Finite

@[expose] public section

noncomputable section

namespace Cert.TopFive

open Idealize.ShloMosaic

variable {α : Type} [LinearOrder α] {n : ℕ} [NeZero n]

/-- `p` is the first position of a largest entry of `x`. -/
def IsFirst (x : Fin n → α) (p : Fin n) : Prop := (∀ k, x k ≤ x p) ∧ ∀ k, x k = x p → p ≤ k

/-- Every row has a first position of a largest entry. -/
theorem exists_first (x : Fin n → α) : ∃ p, IsFirst x p := by
  obtain ⟨m, -, hm⟩ := Finset.univ.exists_max_image x ⟨0, Finset.mem_univ _⟩
  obtain ⟨p, hp, hmin⟩ := (Finset.univ.filter fun k => x k = x m).exists_min_image id ⟨m, by simp⟩
  have hpm : x p = x m := (Finset.mem_filter.mp hp).2
  refine ⟨p, fun k => hpm ▸ hm k (Finset.mem_univ _), fun k hk => hmin k ?_⟩
  exact Finset.mem_filter.mpr ⟨Finset.mem_univ _, hk.trans hpm⟩

/-- The first position of a largest entry. -/
def first (x : Fin n → α) : Fin n := (exists_first x).choose

/-- It is one. -/
theorem first_spec (x : Fin n → α) : IsFirst x (first x) := (exists_first x).choose_spec

/-- There is only one. -/
theorem eq_first (x : Fin n → α) (p : Fin n) (h : IsFirst x p) : p = first x := by
  have hf := first_spec x
  have e : x p = x (first x) := le_antisymm (hf.1 p) (h.1 _)
  exact le_antisymm (h.2 _ e.symm) (hf.2 _ e)

/-- The row with its first largest entry replaced by `μ`. -/
def out (μ : α) (x : Fin n → α) : Fin n → α := fun k => if k = first x then μ else x k

/-- The position picked in round `r`. -/
def pick (μ : α) (x : Fin n → α) (r : ℕ) : Fin n := first ((out μ)^[r] x)

/-- After `r` rounds the picked entries read `μ` and the others are as they were. -/
theorem out_iterate (μ : α) (x : Fin n → α) (r : ℕ) (k : Fin n) :
    ((∃ i, i < r ∧ pick μ x i = k) → (out μ)^[r] x k = μ) ∧ ((∀ i, i < r → pick μ x i ≠ k) → (out μ)^[r] x k = x k) := by
  induction r with
  | zero => exact ⟨fun ⟨i, hi, _⟩ => absurd hi (Nat.not_lt_zero _), fun _ => rfl⟩
  | succ r ih =>
    rw [Function.iterate_succ_apply']
    constructor
    · rintro ⟨i, hi, e⟩
      unfold out
      split
      · rfl
      · rename_i hk
        refine ih.1 ⟨i, ?_, e⟩
        rcases Nat.lt_succ_iff_lt_or_eq.mp hi with h | h
        · exact h
        · subst h; exact absurd e.symm hk
    · intro h
      unfold out
      rw [if_neg fun e => h r (Nat.lt_succ_self r) e.symm]
      exact ih.2 fun i hi => h i (Nat.lt_succ_of_lt hi)

/-- A round picks a largest of the entries not picked before, and the first of those. -/
theorem pick_best (μ : α) (x : Fin n → α) (hμ : ∀ k, μ < x k) (r : ℕ) (hr : r < n) :
    (∀ i, i < r → pick μ x i ≠ pick μ x r) ∧
    ∀ k, (∀ i, i < r → pick μ x i ≠ k) → x k ≤ x (pick μ x r) ∧ (x k = x (pick μ x r) → pick μ x r ≤ k) := by
  have hspec := first_spec ((out μ)^[r] x)
  have hnew : ∀ i, i < r → pick μ x i ≠ pick μ x r := by
    intro i hi e
    have hlow : (out μ)^[r] x (pick μ x r) = μ := (out_iterate μ x r _).1 ⟨i, hi, e⟩
    obtain ⟨k, hk⟩ : ∃ k, ∀ i, i < r → pick μ x i ≠ k := by
      by_contra hno
      push Not at hno
      have hsub : (Finset.univ : Finset (Fin n)) ⊆ (Finset.range r).image (pick μ x) := fun k _ => by
        obtain ⟨i, hi, e⟩ := hno k
        exact Finset.mem_image.mpr ⟨i, Finset.mem_range.mpr hi, e⟩
      have hc := (Finset.card_le_card hsub).trans Finset.card_image_le
      rw [Finset.card_univ, Fintype.card_fin, Finset.card_range] at hc
      omega
    have h1 := hspec.1 k
    rw [(out_iterate μ x r k).2 hk] at h1
    exact absurd (h1.trans hlow.le) (not_le.mpr (hμ k))
  refine ⟨hnew, fun k hk => ?_⟩
  have ek := (out_iterate μ x r k).2 hk
  have ep := (out_iterate μ x r (pick μ x r)).2 hnew
  refine ⟨?_, fun e => ?_⟩
  · have h1 := hspec.1 k
    rw [ek] at h1
    exact h1.trans ep.le
  · exact hspec.2 k (ek.trans (e.trans ep.symm))

/-- "Sorts before": a larger value first, and of equal values the earlier position. -/
def before (x : Fin n → α) (k k' : Fin n) : Bool := decide (x k' < x k) || (decide (x k = x k') && decide (k < k'))

/-- That is a strict total order of the positions. -/
theorem before_strict (x : Fin n → α) : StrictTotalBefore (before x) :=
  StrictTotalBefore.of_key_then_position (fun a b => decide (b < a)) x (by simp)
    (fun a b c h h' => by simp only [decide_eq_true_eq] at *; exact h'.trans h)
    (fun a b => by
      simp only [decide_eq_true_eq]
      rcases lt_trichotomy a b with h | h | h
      · exact .inr (.inr h)
      · exact .inr (.inl h)
      · exact .inl h)

/-- Not before, where the value is not larger and an equal value stands no earlier. -/
theorem before_false (x : Fin n → α) (p q : Fin n) (h : x p ≤ x q) (h' : x p = x q → q ≤ p) : before x p q = false := by
  unfold before
  rw [Bool.or_eq_false_iff, Bool.and_eq_false_iff]
  refine ⟨decide_eq_false (not_lt.mpr h), ?_⟩
  by_cases e : x p = x q
  · exact .inr (decide_eq_false (not_lt.mpr (h' e)))
  · exact .inl (decide_eq_false e)

/-- The picks are the leading positions of the sort by value and then position. -/
theorem sorted_eq_pick (μ : α) (x : Fin n → α) (hμ : ∀ k, μ < x k) {K : ℕ} (hK : K ≤ n) (i : Fin K) :
    sortedFrom (before x) (i.castLE hK) = pick μ x i.val := by
  have hlt : ∀ j : Fin K, j.val < n := fun j => j.isLt.trans_le hK
  have hne : ∀ i j : Fin K, i < j → pick μ x i.val ≠ pick μ x j.val := fun i j h =>
    (pick_best μ x hμ j.val (hlt j)).1 i.val h
  refine (before_strict x).sortedFrom_eq_of_prefix hK (fun j : Fin K => pick μ x j.val) ?_ ?_ ?_ i
  · intro i j e
    rcases lt_trichotomy i j with h | h | h
    · exact absurd e (hne i j h)
    · exact h
    · exact absurd e.symm (hne j i h)
  · intro i j hij
    have h := (pick_best μ x hμ i.val (hlt i)).2 (pick μ x j.val) fun l hl =>
      hne ⟨l, hl.trans i.isLt⟩ j (lt_trans (b := i) hl hij)
    exact before_false x _ _ h.1 h.2
  · intro i p hp
    have h := (pick_best μ x hμ i.val (hlt i)).2 p fun l hl => hp ⟨l, hl.trans i.isLt⟩
    exact before_false x _ _ h.1 h.2

/-- On a list in ascending order two comparators that agree on every later element against an earlier one sort alike. -/
theorem stableSort_of_ascending (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

/-- The stable sort by descending value alone is the sort by value and then position. -/
theorem sorted_by_value (x : Fin n → α) (R : Fin n → Fin n → Bool) (hR : ∀ k k', R k k' = decide (x k' < x k)) :
    sortedFrom R = sortedFrom (before x) := by
  have e : sortPositions n R = sortPositions n (before x) := by
    refine stableSort_of_ascending R (before x) (fun a b hab => ?_) _ (List.pairwise_lt_finRange n)
    rw [hR]
    unfold before
    rw [decide_eq_false (not_lt.mpr hab.le), Bool.and_false, Bool.or_false]
  have key : ∀ (l l' : List (Fin n)) (_ : l = l') (k : Fin n) (h : n = l.length) (h' : n = l'.length),
      l.get (k.cast h) = l'.get (k.cast h') := by
    rintro l _ rfl k h h'
    rfl
  funext k
  exact key _ _ e k _ _

/-- The leading positions of the stable sort by descending value are the picks. -/
theorem sorted_eq_pick_of_value (μ : α) (x : Fin n → α) (hμ : ∀ k, μ < x k) (R : Fin n → Fin n → Bool)
    (hR : ∀ k k', R k k' = decide (x k' < x k)) {K : ℕ} (hK : K ≤ n) (i : Fin K) :
    sortedFrom R (i.castLE hK) = pick μ x i.val := by
  rw [sorted_by_value x R hR, sorted_eq_pick μ x hμ hK i]

/-- Different rounds pick different positions. -/
theorem pick_ne (μ : α) (x : Fin n → α) (hμ : ∀ k, μ < x k) {i j : ℕ} (hij : i < j) (hj : j < n) :
    pick μ x i ≠ pick μ x j := (pick_best μ x hμ j hj).1 i hij

end Cert.TopFive

end
-- ==== Proof.Consts.lean ====
/- The numbers the two programs' float constants denote over the extended reals. -/
module

public import Idealize.ShloMosaic.PureOps.Ideal
public import Idealize.ShloMosaic.PureOps.Ideal.Laws
public import Idealize.ShloMosaic.Lib.IdealHost

@[expose] public section

namespace Cert.Consts

open Idealize.ShloMosaic

/-- Minus infinity. -/
theorem neg_inf : Ideal.ofBits .f32 0xFF800000#32 = ⊥ := by simp [Ideal.ofBits, Ideal.ieee]

/-- Minus one. -/
theorem neg_one : Ideal.ofBits .f32 0xBF800000#32 = ((-1 : ℝ) : EReal) := by
  simp [Ideal.ofBits, Ideal.ieee, -EReal.coe_mul, -EReal.coe_neg]; norm_num

/-- 128, the number of rows. -/
theorem rows : Ideal.ofBits .f32 0x43000000#32 = ((128 : ℝ) : EReal) := by
  simp [Ideal.ofBits, Ideal.ieee, -EReal.coe_mul, -EReal.coe_neg]; norm_num

/-- 32768, the number of columns. -/
theorem columns : Ideal.ofBits .f32 0x47000000#32 = ((32768 : ℝ) : EReal) := by
  simp [Ideal.ofBits, Ideal.ieee, -EReal.coe_mul, -EReal.coe_neg]; norm_num

/-- 32767, the number of columns less one. -/
theorem columns_less_one : Ideal.ofBits .f32 0x46FFFE00#32 = ((32767 : ℝ) : EReal) := by
  simp [Ideal.ofBits, Ideal.ieee, -EReal.coe_mul, -EReal.coe_neg]; norm_num

/-- One over 128. -/
theorem one_over_rows : Ideal.ofBits .f32 0x3C000000#32 = ((1 / 128 : ℝ) : EReal) := by
  simp [Ideal.ofBits, Ideal.ieee, -EReal.coe_mul, -EReal.coe_neg]; norm_num

end Cert.Consts
-- ==== Proof.Rows.lean ====
/- One row of a table of extended reals, and the two small facts both programs' readings of a row use. -/
module

public import proofs.«01_k».proof.Proof.TopFive
public import proofs.«01_k».proof.Proof.Consts
public import Idealize.ShloMosaic.Lib.Pointwise

@[expose] public section

noncomputable section

open Idealize.ShloMosaic

namespace Cert.Rows

/-- One row of a table. -/
def row {n : ℕ} (x : Vec Ideal ⟨2, ![n, 32768]⟩ .f32) (r : Fin n) : Fin 32768 → EReal := fun j => x (Idealize.ShloMosaic.ix2 r j)

/-- The largest of a family that has one, as the fold that computes it. -/
theorem fold_max_eq {n : ℕ} (f : Fin n → EReal) (p : Fin n) (hp : ∀ k, f k ≤ f p) :
    (Finset.univ : Finset (Fin n)).fold max ⊥ f = f p := by
  refine le_antisymm ((Finset.fold_max_le _).mpr ⟨bot_le, fun k _ => hp k⟩) ?_
  exact (Finset.le_fold_max _).mpr (.inr ⟨p, Finset.mem_univ _, le_rfl⟩)

/-- A bit made of a truth value is set exactly where it is true. -/
theorem ofBool_eq_one (p : Prop) [Decidable p] : BitVec.ofBool (decide p) = 1#1 ↔ p := by
  by_cases h : p <;> simp [h]

end Cert.Rows

end
-- ==== Proof.BlockReads.lean ====
/-
  What one round does to a block over the extended reals, row by row: it marks the first largest entry of each row and puts
  it to minus one. So the marks of the five rounds at a column count the rounds that pick that column, and a grid point adds
  to the histogram, at each column, the number of the block's (row, round) pairs that pick it.
-/
module

public import proofs.«01_k».proof.Proof.Rounds
public import proofs.«01_k».proof.Proof.Rows
public import proofs.«01_k».proof.Proof.Consts
public import Idealize.ShloMosaic.Lib.Pointwise
public import Idealize.ShloMosaic.Lib.SortNet.Extract

@[expose] public section

set_option maxRecDepth 16384

noncomputable section

open Idealize.ShloMosaic Idealize.ShloMosaic.TcCoe Idealize.SL.Sem

namespace Cert.KernelIdeal.Value

open Cert.KernelIdeal Cert.KernelIdeal.Gen Cert.TopFive Cert.Rows

/-- Whether an entry is a largest of its row: whether it equals the row's first largest entry. -/
theorem isMax_apply (x : Vec Ideal S8x32768 .f32) (r : Fin 8) (j : Fin 32768) :
    isMax x (Idealize.ShloMosaic.ix2 r j) = BitVec.ofBool (decide (row x r j = row x r (first (row x r)))) := by
  unfold isMax
  pointwise
  have e := fold_max_eq (row x r) (first (row x r)) (first_spec (row x r)).1
  rw [Cert.Consts.neg_inf]
  unfold row at e ⊢
  rw [e]

/-- The first column at which a row is marked: the smallest of the column numbers taken at the marks and 32768 taken elsewhere. -/
theorem firstCol_apply (b : IVec S8x32768 1) (r : Fin 8) (p : Fin 32768) (hp : b (Idealize.ShloMosaic.ix2 r p) = 1#1)
    (hmin : ∀ k, b (Idealize.ShloMosaic.ix2 r k) = 1#1 → p ≤ k) :
    firstCol b (Idealize.ShloMosaic.ix1 r) = BitVec.ofNat 32 p.val := by
  have hcol : ∀ k : Fin 32768, (BitVec.ofNat 32 k.val).toInt = (k.val : ℤ) := fun k => by
    have := k.isLt
    rw [BitVec.toInt_eq_toNat_of_lt] <;> rw [BitVec.toNat_ofNat, Nat.mod_eq_of_lt] <;> omega
  unfold firstCol
  pointwise
  apply BitVec.eq_of_toInt_eq
  refine (Finset.fold_hom (op' := min) (m := BitVec.toInt) fun a b => SortNet.toInt_minsi a b).symm.trans ?_
  rw [hcol]
  refine le_antisymm ((Finset.fold_min_le _).mpr (.inr ⟨p, Finset.mem_univ _, ?_⟩)) ((Finset.le_fold_min _).mpr ⟨?_, fun k _ => ?_⟩)
  · rw [hp]
    exact (hcol p).le
  · have h := p.isLt
    show (p.val : ℤ) ≤ 2147483647
    omega
  · by_cases hk : b (Idealize.ShloMosaic.ix2 r k) = 1#1
    · have e : Scalar.select (b (Idealize.ShloMosaic.ix2 r k)) (BitVec.ofNat 32 k.val) 32768#32 = BitVec.ofNat 32 k.val := if_pos hk
      rw [e, hcol]
      exact_mod_cast hmin k hk
    · have e : Scalar.select (b (Idealize.ShloMosaic.ix2 r k)) (BitVec.ofNat 32 k.val) 32768#32 = 32768#32 := if_neg hk
      rw [e]
      have h := p.isLt
      show (p.val : ℤ) ≤ 32768
      omega

/-- A round picks, in each row, the first largest entry. -/
theorem hit_apply (x : Vec Ideal S8x32768 .f32) (r : Fin 8) (j : Fin 32768) :
    hit x (Idealize.ShloMosaic.ix2 r j) = BitVec.ofBool (decide (j = first (row x r))) := by
  have hs := first_spec (row x r)
  have hf : firstCol (isMax x) (Idealize.ShloMosaic.ix1 r) = BitVec.ofNat 32 (first (row x r)).val := by
    refine firstCol_apply _ r _ ?_ fun k hk => ?_
    · rw [isMax_apply, ofBool_eq_one]
    · rw [isMax_apply, ofBool_eq_one] at hk
      exact hs.2 k hk
  unfold hit
  pointwise
  rw [hf]
  generalize first (row x r) = p
  unfold IntOp.cmpi
  refine congrArg BitVec.ofBool ?_
  show (BitVec.ofNat 32 j.val == BitVec.ofNat 32 p.val) = _
  rw [beq_eq_decide, decide_eq_decide]
  refine ⟨fun e => ?_, fun e => by rw [← e]⟩
  have e' := congrArg BitVec.toNat e
  have h1 := j.isLt
  have h2 := p.isLt
  rw [BitVec.toNat_ofNat, BitVec.toNat_ofNat, Nat.mod_eq_of_lt (by omega), Nat.mod_eq_of_lt (by omega)] at e'
  exact Fin.ext e'

/-- A round's marks: a one at each row's first largest entry, a zero elsewhere. -/
theorem mark_apply (x : Vec Ideal S8x32768 .f32) (r : Fin 8) (j : Fin 32768) :
    mark x (Idealize.ShloMosaic.ix2 r j) = if j = first (row x r) then 1 else 0 := by
  unfold mark
  pointwise
  rw [hit_apply]
  by_cases h : j = first (row x r)
  · rw [if_pos h, decide_eq_true h]
    show (((1 : ℤ) : ℝ) : EReal) = 1
    norm_num
  · rw [if_neg h, decide_eq_false h]
    show (((0 : ℤ) : ℝ) : EReal) = 0
    norm_num

/-- A round strikes out, in each row, the first largest entry. -/
theorem row_strike (x : Vec Ideal S8x32768 .f32) (r : Fin 8) : row (strike x) r = out ((-1 : ℝ) : EReal) (row x r) := by
  funext j
  unfold row strike out
  pointwise
  rw [hit_apply, Cert.Consts.neg_one]
  by_cases h : j = first (row x r)
  · rw [decide_eq_true h]
    exact (if_pos h).symm
  · rw [decide_eq_false h]
    exact (if_neg h).symm

/-- After `n` rounds a row is struck out `n` times. -/
theorem row_strike_iterate (x : Vec Ideal S8x32768 .f32) (r : Fin 8) (n : ℕ) :
    row (strike^[n] x) r = (out ((-1 : ℝ) : EReal))^[n] (row x r) := by
  induction n with
  | zero => rfl
  | succ n ih => rw [Function.iterate_succ_apply', Function.iterate_succ_apply', row_strike, ih]

/-- The marks of `n` rounds at a column: how many of them pick it. -/
theorem marks_apply (x : Vec Ideal S8x32768 .f32) (r : Fin 8) (j : Fin 32768) (n : ℕ) :
    marks x n (Idealize.ShloMosaic.ix2 r j)
      = ∑ i ∈ Finset.range n, if j = pick ((-1 : ℝ) : EReal) (row x r) i then (1 : EReal) else 0 := by
  induction n with
  | zero =>
    unfold marks
    pointwise
    rw [Finset.sum_range_zero]
  | succ n ih =>
    rw [marks_succ, Finset.sum_range_succ, ← ih]
    unfold pick
    rw [← row_strike_iterate, ← mark_apply]
    rfl

/-- A grid point adds to the histogram, at each column, the marks of its block's eight rows. -/
theorem addMarks_apply (x : Vec Ideal S8x32768 .f32) (h : Vec Ideal S1x32768 .f32) (j : Fin 32768) :
    addMarks x h (Idealize.ShloMosaic.ix2 0 j) = h (Idealize.ShloMosaic.ix2 0 j) + ∑ r : Fin 8, marks x 5 (Idealize.ShloMosaic.ix2 r j) := by
  unfold addMarks
  pointwise

end Cert.KernelIdeal.Value

end
-- ==== Proof.RealSums.lean ====
/- Sums of extended reals: of reals, and of families with an infinite member; and a sum over 128 rows taken in sixteen blocks of eight. -/
module

public import Idealize.ShloMosaic.PureOps.Ideal
public import Idealize.ShloMosaic.PureOps.Ideal.Laws
public import Idealize.ShloMosaic.Lib.IdealHost

@[expose] public section

noncomputable section

namespace Cert.RealSums

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum none of whose terms is minus infinity is not minus infinity. -/
theorem sum_ne_bot {ι : Type} (s : Finset ι) (f : ι → EReal) (h : ∀ i, f i ≠ ⊥) : ∑ i ∈ s, f i ≠ ⊥ := by
  classical
  induction s using Finset.induction_on with
  | empty => simp
  | insert a s ha ih =>
    rw [Finset.sum_insert ha]
    exact fun e => (EReal.add_eq_bot_iff.mp e).elim (h a) ih

/-- A sum with an infinite term and none minus infinity is infinite. -/
theorem sum_eq_top {ι : Type} [Fintype ι] (f : ι → EReal) (h : ∀ i, f i ≠ ⊥) (a : ι) (ha : f a = ⊤) : ∑ i, f i = ⊤ := by
  classical
  rw [← Finset.add_sum_erase Finset.univ f (Finset.mem_univ a), ha]
  exact EReal.top_add_of_ne_bot (sum_ne_bot _ f h)

/-- The sum of a family over the 128 rows, taken block by block: the first `n` blocks of eight rows (counted round past the last). -/
def blocks (G : Fin 128 → EReal) (n : ℕ) : EReal :=
  ∑ t ∈ Finset.range n, ∑ r : Fin 8, G ⟨(8 * t + r.val) % 128, Nat.mod_lt _ (by decide)⟩

/-- One block more. -/
theorem blocks_succ (G : Fin 128 → EReal) (n : ℕ) :
    blocks G (n + 1) = blocks G n + ∑ r : Fin 8, G ⟨(8 * n + r.val) % 128, Nat.mod_lt _ (by decide)⟩ :=
  Finset.sum_range_succ _ _

/-- Sixteen blocks are all the rows. -/
theorem blocks_all (G : Fin 128 → EReal) : blocks G 16 = ∑ r, G r := by
  unfold blocks
  rw [Finset.sum_range, ← Fintype.sum_prod_type']
  refine Fintype.sum_equiv (finProdFinEquiv (m := 16) (n := 8)) _ _ fun ⟨t, r⟩ => congrArg G (Fin.ext ?_)
  have h1 := t.isLt
  have h2 := r.isLt
  show (8 * t.val + r.val) % 128 = r.val + 8 * t.val
  omega

end Cert.RealSums

end
-- ==== Proof.Counts.lean ====
/- How often a column is among the five picked, over all rows of a table: a sum of zeros and ones, so a real. -/
module

public import proofs.«01_k».proof.Proof.Rows
public import proofs.«01_k».proof.Proof.RealSums

@[expose] public section

noncomputable section

open Idealize.ShloMosaic

namespace Cert.Counts

open Cert.TopFive Cert.Rows Cert.RealSums

/-- The number of the five rounds that pick column `j` of a row. -/
def picks (f : Fin 32768 → EReal) (j : Fin 32768) : EReal :=
  ∑ i ∈ Finset.range 5, if j = pick ((-1 : ℝ) : EReal) f i then (1 : EReal) else 0

/-- The same number, a real. -/
def realPicks (f : Fin 32768 → EReal) (j : Fin 32768) : ℝ :=
  ∑ i ∈ Finset.range 5, if j = pick ((-1 : ℝ) : EReal) f i then (1 : ℝ) else 0

/-- They are the same number. -/
theorem picks_eq (f : Fin 32768 → EReal) (j : Fin 32768) : picks f j = (realPicks f j : EReal) := by
  unfold picks realPicks
  rw [coe_sum]
  exact Finset.sum_congr rfl fun i _ => by split <;> simp

/-- The share of the rows in which column `j` is picked. -/
def share (X : Vec Ideal ⟨2, ![128, 32768]⟩ .f32) (j : Fin 32768) : ℝ := (∑ r, realPicks (row X r) j) * (1 / 128)

/-- The count over the rows, times one over their number, is the share. -/
theorem share_eq (X : Vec Ideal ⟨2, ![128, 32768]⟩ .f32) (j : Fin 32768) :
    (∑ r, picks (row X r) j) * ((1 / 128 : ℝ) : EReal) = (share X j : EReal) := by
  unfold share
  simp only [picks_eq]
  rw [← coe_sum, ← EReal.coe_mul]

end Cert.Counts

end
-- ==== Proof.Variance.lean ====
/-
  The two ways the programs take a row's variance, over the extended reals. Of finite entries they agree; of a row with an
  infinite entry one is minus infinity and the other infinity. So of two rows the squared differences agree in every case.
-/
module

public import proofs.«01_k».proof.Proof.RealSums

@[expose] public section

noncomputable section

open Idealize.ShloMosaic

namespace Cert.Variance

open Cert.RealSums

variable {n : ℕ} [NeZero n]

/-- The mean of `n` entries. -/
def mean (f : Fin n → EReal) : EReal := Ideal.div (∑ k, f k) ((n : ℝ) : EReal)

/-- The variance from the sum of the squares, with divisor `d`. -/
def onePass (d : ℝ) (f : Fin n → EReal) : EReal :=
  Ideal.div (∑ k, f k * f k - ((n : ℝ) : EReal) * mean f * mean f) ((d : ℝ) : EReal)

/-- The variance from the entries less their mean, with divisor `d`. -/
def twoPass (d : ℝ) (f : Fin n → EReal) : EReal :=
  Ideal.div (∑ k, (f k - mean f) * (f k - mean f)) ((d : ℝ) : EReal)

/-- The square of a difference. -/
def gap (a b : EReal) : EReal := (a - b) * (a - b)

/-- The number of entries is a positive real. -/
theorem size_pos : 0 < (n : ℝ) := Nat.cast_pos.mpr (NeZero.pos n)

/-- The mean of reals. -/
theorem mean_coe (g : Fin n → ℝ) : mean (fun k => (g k : EReal)) = (((∑ k, g k) * (1 / (n : ℝ)) : ℝ) : EReal) := by
  unfold mean
  rw [Ideal.div_coe (size_pos (n := n)).ne', ← coe_sum, ← EReal.coe_mul]

/-- Of reals the two variances are one real. -/
theorem finite_row (d : ℝ) (hd : 0 < d) (g : Fin n → ℝ) :
    ∃ v : ℝ, onePass d (fun k => (g k : EReal)) = (v : EReal) ∧ twoPass d (fun k => (g k : EReal)) = (v : EReal) := by
  have hn := size_pos (n := n)
  unfold onePass twoPass
  rw [mean_coe, Ideal.div_coe hd.ne', Ideal.div_coe hd.ne']
  generalize hm : (∑ k, g k) * (1 / (n : ℝ)) = μ
  have hs : ∑ k, g k = n * μ := by
    rw [← hm]
    field_simp
  refine ⟨(∑ k, (g k - μ) * (g k - μ)) * (1 / d), ?_, ?_⟩
  · simp only [← EReal.coe_mul]
    rw [← coe_sum, ← EReal.coe_sub, ← EReal.coe_mul, EReal.coe_eq_coe_iff]
    have e : ∑ k, (g k - μ) * (g k - μ) = ∑ k, g k * g k - n * μ * μ := by
      have : ∀ k, (g k - μ) * (g k - μ) = g k * g k - 2 * μ * g k + μ * μ := fun k => by ring
      simp only [this, Finset.sum_add_distrib, Finset.sum_sub_distrib, ← Finset.mul_sum, hs, Finset.sum_const, Finset.card_univ,
        Fintype.card_fin, nsmul_eq_mul]
      ring
    rw [e]
  · simp only [← EReal.coe_sub, ← EReal.coe_mul]
    rw [← coe_sum, ← EReal.coe_mul]

/-- Of a row with an infinite entry, and none minus infinity, the one is minus infinity and the other infinity. -/
theorem infinite_row (d : ℝ) (hd : 0 < d) (f : Fin n → EReal) (hf : ∀ k, f k ≠ ⊥) (a : Fin n) (ha : f a = ⊤) :
    onePass d f = ⊥ ∧ twoPass d f = ⊤ := by
  have hn := size_pos (n := n)
  have hm : mean f = ⊤ := by
    unfold mean
    rw [Ideal.div_coe hn.ne', sum_eq_top f hf a ha, EReal.top_mul_coe_of_pos (by positivity)]
  unfold onePass twoPass
  rw [hm, Ideal.div_coe hd.ne', Ideal.div_coe hd.ne', EReal.coe_mul_top_of_pos hn, EReal.top_mul_top, EReal.sub_top,
    EReal.bot_mul_coe_of_pos (by positivity)]
  refine ⟨rfl, ?_⟩
  simp only [EReal.sub_top, EReal.bot_mul_bot]
  rw [sum_eq_top (fun _ : Fin n => (⊤ : EReal)) (fun _ => top_ne_bot) a rfl, EReal.top_mul_coe_of_pos (by positivity)]

/-- Of any row without minus infinity: one real, or minus infinity and infinity. -/
theorem row_cases (d : ℝ) (hd : 0 < d) (f : Fin n → EReal) (hf : ∀ k, f k ≠ ⊥) :
    (∃ v : ℝ, onePass d f = (v : EReal) ∧ twoPass d f = (v : EReal)) ∨ (onePass d f = ⊥ ∧ twoPass d f = ⊤) := by
  by_cases h : ∃ a, f a = ⊤
  · obtain ⟨a, ha⟩ := h
    exact .inr (infinite_row d hd f hf a ha)
  · have e : f = fun k => ((f k).toReal : EReal) := funext fun k => (EReal.coe_toReal (fun e => h ⟨k, e⟩) (hf k)).symm
    rw [e]
    exact .inl (finite_row d hd _)

/-- The squared difference of two rows' variances is the same, whichever way the variances are taken. -/
theorem gap_eq (d : ℝ) (hd : 0 < d) (f g : Fin n → EReal) (hf : ∀ k, f k ≠ ⊥) (hg : ∀ k, g k ≠ ⊥) :
    gap (onePass d f) (onePass d g) = gap (twoPass d f) (twoPass d g) := by
  unfold gap
  rcases row_cases d hd f hf with ⟨v, h1, h2⟩ | ⟨h1, h2⟩ <;> rcases row_cases d hd g hg with ⟨w, h3, h4⟩ | ⟨h3, h4⟩ <;>
    rw [h1, h2, h3, h4]
  · simp
  · simp
  · simp

end Cert.Variance

end
-- ==== Proof.Divergence.lean ====
/-
  The two ways the programs take the divergence between the softmaxes of two families of reals, without and with the
  families' maxima taken off first: one real, `∑ e^q (q − p) / ∑ e^q + log ∑ e^p − log ∑ e^q`.
-/
module

public import proofs.«01_k».proof.Proof.RealSums

@[expose] public section

noncomputable section

open Idealize.ShloMosaic

namespace Cert.Divergence

open Cert.RealSums

variable {n : ℕ} [NeZero n]

/-- The divergence of the softmax of `p` from that of `q`, a real. -/
def value (p q : Fin n → ℝ) : ℝ :=
  (∑ k, Real.exp (q k) * (q k - p k)) * (1 / ∑ k, Real.exp (q k)) + Real.log (∑ k, Real.exp (p k)) - Real.log (∑ k, Real.exp (q k))

/-- A sum of exponentials is positive. -/
theorem sum_exp_pos (p : Fin n → ℝ) : 0 < ∑ k, Real.exp (p k) :=
  Finset.sum_pos (fun k _ => Real.exp_pos _) ⟨⟨0, NeZero.pos n⟩, Finset.mem_univ _⟩

/-- A sum of exponentials of reals, as an extended real. -/
theorem sum_exp_coe (p : Fin n → ℝ) : ∑ k, Ideal.exp ((p k : ℝ) : EReal) = ((∑ k, Real.exp (p k) : ℝ) : EReal) := by
  rw [coe_sum]
  rfl

/-- The logarithm of a positive real. -/
theorem log_pos_coe {r : ℝ} (h : 0 < r) : Ideal.log (r : EReal) = ((Real.log r : ℝ) : EReal) := by
  rw [Ideal.log_coe, if_neg h.not_ge]

/-- The divergence taken from the sums of the exponentials. -/
def direct (p q : Fin n → EReal) : EReal :=
  Ideal.div (∑ k, Ideal.exp (q k) * (q k - p k)) (∑ k, Ideal.exp (q k)) + Ideal.log (∑ k, Ideal.exp (p k))
    - Ideal.log (∑ k, Ideal.exp (q k))

/-- Of reals it is the divergence. -/
theorem direct_eq (p q : Fin n → ℝ) : direct (fun k => (p k : EReal)) (fun k => (q k : EReal)) = (value p q : EReal) := by
  unfold direct value
  have hp := sum_exp_pos p
  have hq := sum_exp_pos q
  rw [sum_exp_coe, sum_exp_coe, log_pos_coe hp, log_pos_coe hq, Ideal.div_coe hq.ne']
  simp only [Ideal.exp_coe, ← EReal.coe_sub, ← EReal.coe_mul]
  rw [← coe_sum, ← EReal.coe_mul, ← EReal.coe_add, ← EReal.coe_sub]

/-- The entries less the largest. -/
def shift (p : Fin n → EReal) (j : Fin n) : EReal := p j - max ⊥ ((Finset.univ : Finset (Fin n)).fold max ⊥ p)

/-- The softmax of the shifted entries. -/
def soft (p : Fin n → EReal) (j : Fin n) : EReal := Ideal.div (Ideal.exp (shift p j)) (∑ k, Ideal.exp (shift p k))

/-- The logarithm of the softmax of the shifted entries. -/
def logSoft (p : Fin n → EReal) (j : Fin n) : EReal := shift p j - Ideal.log (∑ k, Ideal.exp (shift p k))

/-- The divergence taken from the softmaxes. -/
def ofSoft (p q : Fin n → EReal) : EReal := ∑ j, soft q j * (Ideal.log (soft q j) - logSoft p j)

/-- The largest of reals is a real. -/
theorem max_coe (p : Fin n → ℝ) : ∃ M : ℝ, max ⊥ ((Finset.univ : Finset (Fin n)).fold max ⊥ fun k => (p k : EReal)) = (M : EReal) := by
  obtain ⟨b, -, hb⟩ := Finset.univ.exists_max_image p ⟨⟨0, NeZero.pos n⟩, Finset.mem_univ _⟩
  refine ⟨p b, ?_⟩
  rw [max_eq_right bot_le]
  refine le_antisymm ((Finset.fold_max_le _).mpr ⟨bot_le, fun k hk => EReal.coe_le_coe_iff.mpr (hb k hk)⟩) ?_
  exact (Finset.le_fold_max _).mpr (.inr ⟨b, Finset.mem_univ _, le_rfl⟩)

/-- Shifting all entries multiplies the sum of the exponentials. -/
theorem sum_exp_shift (p : Fin n → ℝ) (M : ℝ) : ∑ k, Real.exp (p k - M) = (∑ k, Real.exp (p k)) * Real.exp (-M) := by
  rw [Finset.sum_mul]
  exact Finset.sum_congr rfl fun k _ => by rw [← Real.exp_add, sub_eq_add_neg]

/-- The softmax of reals: the shift cancels. -/
theorem soft_coe (p : Fin n → ℝ) (j : Fin n) :
    soft (fun k => (p k : EReal)) j = ((Real.exp (p j) * (1 / ∑ k, Real.exp (p k)) : ℝ) : EReal) := by
  obtain ⟨M, hM⟩ := max_coe p
  have hp := sum_exp_pos p
  unfold soft shift
  simp only [hM, ← EReal.coe_sub]
  have hs := sum_exp_pos fun k => p k - M
  rw [sum_exp_coe fun k => p k - M, Ideal.div_coe hs.ne', Ideal.exp_coe, ← EReal.coe_mul, EReal.coe_eq_coe_iff, sum_exp_shift,
    sub_eq_add_neg, Real.exp_add]
  have := Real.exp_pos (-M)
  field_simp

/-- Its logarithm: the shift cancels. -/
theorem logSoft_coe (p : Fin n → ℝ) (j : Fin n) :
    logSoft (fun k => (p k : EReal)) j = ((p j - Real.log (∑ k, Real.exp (p k)) : ℝ) : EReal) := by
  obtain ⟨M, hM⟩ := max_coe p
  have hp := sum_exp_pos p
  unfold logSoft shift
  simp only [hM, ← EReal.coe_sub]
  have hs := sum_exp_pos fun k => p k - M
  rw [sum_exp_coe fun k => p k - M, log_pos_coe hs, ← EReal.coe_sub, EReal.coe_eq_coe_iff, sum_exp_shift,
    Real.log_mul hp.ne' (Real.exp_pos _).ne', Real.log_exp]
  ring

/-- Of reals the divergence taken from the softmaxes is the divergence. -/
theorem ofSoft_eq (p q : Fin n → ℝ) : ofSoft (fun k => (p k : EReal)) (fun k => (q k : EReal)) = (value p q : EReal) := by
  have hp := sum_exp_pos p
  have hq := sum_exp_pos q
  unfold ofSoft value
  generalize hP : ∑ k, Real.exp (p k) = P at hp
  generalize hQ : ∑ k, Real.exp (q k) = Q at hq
  have ht : ∀ j, soft (fun k => (q k : EReal)) j * (Ideal.log (soft (fun k => (q k : EReal)) j) - logSoft (fun k => (p k : EReal)) j)
      = ((Real.exp (q j) * (q j - p j) * (1 / Q) + Real.exp (q j) * ((1 / Q) * (Real.log P - Real.log Q)) : ℝ) : EReal) := by
    intro j
    have he := Real.exp_pos (q j)
    rw [soft_coe, logSoft_coe, hP, hQ, log_pos_coe (by positivity), ← EReal.coe_sub, ← EReal.coe_mul, EReal.coe_eq_coe_iff,
      Real.log_mul he.ne' (by positivity), Real.log_exp, one_div, Real.log_inv]
    ring
  rw [Finset.sum_congr rfl fun j _ => ht j, ← coe_sum, EReal.coe_eq_coe_iff, Finset.sum_add_distrib, ← Finset.sum_mul, ← Finset.sum_mul, hQ]
  field_simp
  ring

end Cert.Divergence

end
-- ==== Proof.BlockSums.lean ====
/-
  The kernel's sums over the extended reals. A grid point adds, for each of its eight rows, the picks of the row's columns
  and the squared differences of the two rows' means and variances; after sixteen points the sums run over all 128 rows.
-/
module

public import proofs.«01_k».proof.Proof.BlockReads
public import proofs.«01_k».proof.Proof.KernelRun
public import proofs.«01_k».proof.Proof.Counts
public import proofs.«01_k».proof.Proof.Variance
public import proofs.«01_k».proof.Proof.Divergence
public import Idealize.ShloMosaic.Lib.Pointwise.IndexBridge

@[expose] public section

set_option maxRecDepth 16384

noncomputable section

open Idealize.ShloMosaic Idealize.ShloMosaic.TcCoe Idealize.SL.Sem

namespace Cert.KernelIdeal.Value

open Cert.KernelIdeal Cert.KernelIdeal.Gen Cert.TopFive Cert.Rows Cert.Counts Cert.Variance Cert.RealSums

/-- The number of columns, as the number of a row's entries. -/
theorem columns_cast : ((32768 : ℝ) : EReal) = (((32768 : ℕ) : ℝ) : EReal) := by norm_num

/-- The first input's row means. -/
theorem pay9_apply (x : Vec Ideal S8x32768 .f32) (r : Fin 8) : k0_pay9 x (Idealize.ShloMosaic.ix1 r) = mean (row x r) := by
  unfold k0_pay9 k0_pay7
  pointwise
  rw [Cert.Consts.columns, columns_cast]
  rfl

/-- The second input's row means. -/
theorem pay10_apply (x : Vec Ideal S8x32768 .f32) (r : Fin 8) : k0_pay10 x (Idealize.ShloMosaic.ix1 r) = mean (row x r) := by
  unfold k0_pay10 k0_pay8
  pointwise
  rw [Cert.Consts.columns, columns_cast]
  rfl

/-- The differences of the row variances. -/
theorem pay11_apply (x y : Vec Ideal S8x32768 .f32) (r : Fin 8) :
    k0_pay11 x y (Idealize.ShloMosaic.ix1 r) = onePass 32767 (row x r) - onePass 32767 (row y r) := by
  unfold k0_pay11 k0_pay7 k0_pay8
  pointwise
  rw [pay9_apply, pay10_apply, Cert.Consts.columns, columns_cast, Cert.Consts.columns_less_one]
  rfl

/-- The running sum of the squared mean differences takes on a block's eight. -/
theorem stepM_apply (x y : Vec Ideal S8x32768 .f32) (s : EReal) :
    stepM (F := Ideal) x y s = s + ∑ r : Fin 8, gap (mean (row x r)) (mean (row y r)) := by
  unfold stepM k0_pay12
  pointwise
  simp only [pay9_apply, pay10_apply]
  rfl

/-- The running sum of the squared variance differences takes on a block's eight. -/
theorem stepV_apply (x y : Vec Ideal S8x32768 .f32) (s : EReal) :
    stepV (F := Ideal) x y s = s + ∑ r : Fin 8, gap (onePass 32767 (row x r)) (onePass 32767 (row y r)) := by
  unfold stepV k0_pay13
  pointwise
  simp only [pay11_apply]
  rfl

/-- A block's row is one of the table's. -/
theorem row_rowsOf (X : Vec Ideal S128x32768 .f32) (n : ℕ) (r : Fin 8) :
    row (rowsOf X n) r = row X ⟨(8 * n + r.val) % 128, Nat.mod_lt _ (by decide)⟩ := by
  funext j
  unfold row rowsOf
  rw [ix2_eq_valueIdx]
  exact congrArg X rfl

/-- The histogram step of a block of rows. -/
theorem hist_step (X : Vec Ideal S128x32768 .f32) (n : ℕ) (h : Vec Ideal S1x32768 .f32) (j : Fin 32768)
    (hh : h (Idealize.ShloMosaic.ix2 0 j) = blocks (fun r => picks (row X r) j) n) :
    addMarks (rowsOf X n) h (Idealize.ShloMosaic.ix2 0 j) = blocks (fun r => picks (row X r) j) (n + 1) := by
  rw [addMarks_apply, hh, blocks_succ]
  refine congrArg _ (Finset.sum_congr rfl fun r _ => ?_)
  rw [marks_apply, row_rowsOf]
  rfl

variable (X Y : Vec Ideal S128x32768 .f32)

/-- The first histogram after `n` blocks. -/
theorem hist1_apply (n : ℕ) (j : Fin 32768) :
    (carried X Y n).hist1 (Idealize.ShloMosaic.ix2 0 j) = blocks (fun r => picks (row X r) j) n := by
  induction n with
  | zero =>
    show (k0_pay5 : FVec Ideal S1x32768 .f32) (Idealize.ShloMosaic.ix2 0 j) = _
    unfold k0_pay5
    pointwise
    exact (Finset.sum_range_zero _).symm
  | succ n ih =>
    show step1 (rowsOf X n) (carried X Y n).hist1 _ = _
    rw [step1_eq]
    exact hist_step X n _ j ih

/-- The second histogram after `n` blocks. -/
theorem hist2_apply (n : ℕ) (j : Fin 32768) :
    (carried X Y n).hist2 (Idealize.ShloMosaic.ix2 0 j) = blocks (fun r => picks (row Y r) j) n := by
  induction n with
  | zero =>
    show (k0_pay6 : FVec Ideal S1x32768 .f32) (Idealize.ShloMosaic.ix2 0 j) = _
    unfold k0_pay6
    pointwise
    exact (Finset.sum_range_zero _).symm
  | succ n ih =>
    show step2 (rowsOf Y n) (carried X Y n).hist2 _ = _
    rw [step2_eq]
    exact hist_step Y n _ j ih

/-- The zero the sums start from. -/
theorem zero_apply : (zero : Ideal .f32) = (0 : EReal) := by
  unfold zero
  pointwise

/-- The sum of the squared mean differences after `n` blocks. -/
theorem sm_apply (n : ℕ) : (carried X Y n).sm = blocks (fun r => gap (mean (row X r)) (mean (row Y r))) n := by
  induction n with
  | zero => exact zero_apply.trans (Finset.sum_range_zero _).symm
  | succ n ih =>
    show stepM (rowsOf X n) (rowsOf Y n) (carried X Y n).sm = _
    rw [stepM_apply, ih, blocks_succ]
    exact congrArg _ (Finset.sum_congr rfl fun r _ => by rw [row_rowsOf, row_rowsOf])

/-- The sum of the squared variance differences after `n` blocks. -/
theorem sv_apply (n : ℕ) :
    (carried X Y n).sv = blocks (fun r => gap (onePass 32767 (row X r)) (onePass 32767 (row Y r))) n := by
  induction n with
  | zero => exact zero_apply.trans (Finset.sum_range_zero _).symm
  | succ n ih =>
    show stepV (rowsOf X n) (rowsOf Y n) (carried X Y n).sv = _
    rw [stepV_apply, ih, blocks_succ]
    exact congrArg _ (Finset.sum_congr rfl fun r _ => by rw [row_rowsOf, row_rowsOf])

/-- The kernel's distance of two running sums. -/
theorem pay3_apply (s t : EReal) :
    k0_pay3 (F := Ideal) s t = Ideal.div s ((128 : ℝ) : EReal) + Ideal.div t ((128 : ℝ) : EReal) := by
  unfold k0_pay3
  pointwise
  rw [Cert.Consts.rows]

/-- The kernel's correlation of two histograms. -/
theorem pay2_apply (h1 h2 : Vec Ideal S1x32768 .f32) :
    k0_pay2 (F := Ideal) h1 h2
      = Ideal.div (Cert.Divergence.direct (fun j => h1 (Idealize.ShloMosaic.ix2 0 j) * ((1 / 128 : ℝ) : EReal))
          (fun j => h2 (Idealize.ShloMosaic.ix2 0 j) * ((1 / 128 : ℝ) : EReal))) ((32768 : ℝ) : EReal) := by
  unfold k0_pay2
  pointwise
  simp only [Cert.Consts.one_over_rows, Cert.Consts.columns, Finset.univ_unique, Finset.sum_singleton]
  have hlog : ∀ z : EReal, (Scalar.log (F := Ideal) (φ := .f32) z : EReal) = Ideal.log z := fun _ => rfl
  simp only [hlog]
  rw [Cert.Divergence.direct]

/-- The kernel's distance. -/
theorem dist_apply :
    k0_pay3 (F := Ideal) (carried X Y 16).sm (carried X Y 16).sv
      = Ideal.div (∑ r, gap (mean (row X r)) (mean (row Y r))) ((128 : ℝ) : EReal)
        + Ideal.div (∑ r, gap (onePass 32767 (row X r)) (onePass 32767 (row Y r))) ((128 : ℝ) : EReal) := by
  rw [pay3_apply, sm_apply, sv_apply, blocks_all, blocks_all]

/-- The kernel's correlation: the divergence of the shares, over the number of columns. -/
theorem corr_apply :
    k0_pay2 (F := Ideal) (carried X Y 16).hist1 (carried X Y 16).hist2
      = Ideal.div ((Cert.Divergence.value (share X) (share Y) : ℝ) : EReal) ((32768 : ℝ) : EReal) := by
  rw [pay2_apply]
  simp only [hist1_apply, hist2_apply, blocks_all, share_eq]
  rw [Cert.Divergence.direct_eq]

/-- The kernel's total is the sum of the two. -/
theorem pay4_apply (h1 h2 : Vec Ideal S1x32768 .f32) (s t : EReal) :
    k0_pay4 (F := Ideal) h1 h2 s t = ((k0_pay3 (F := Ideal) s t : EReal) + (k0_pay2 (F := Ideal) h1 h2 : EReal) : EReal) := rfl

end Cert.KernelIdeal.Value

end
-- ==== Proof.RefTerm.lean ====
/- The reference's three results as short terms: one definition per step of the reference's text, shared by
   its two arguments, and the equation between them and the terms the run of the reference leaves. -/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The `f32` word of 32768, a rank-zero array. -/
abbrev c32768 : Vec F S_ .f32 := constant S_ .f32 0x47000000#32

/-- The `f32` word of 128, a rank-zero array. -/
abbrev c128 : Vec F S_ .f32 := constant S_ .f32 0x43000000#32

/-- The zero a sum starts from. -/
abbrev c0 : Vec F S_ .f32 := constant S_ .f32 0x00000000#32

/-- A row's sum. -/
def rowSum (x : Vec F S128x32768 .f32) : Vec F S128 .f32 :=
  Host.reduceAdd x c0 reducesTo_S128x32768_S128_d1 h_S_

/-- A row's mean. -/
def rowMean (x : Vec F S128x32768 .f32) : Vec F S128 .f32 :=
  Host.divf (rowSum x) (broadcastInDim S128 ![] bcast_S_S128 c32768)

/-- A row's entries less the row's mean. -/
def centred (x : Vec F S128x32768 .f32) : Vec F S128x32768 .f32 :=
  subf x (broadcastInDim S128x32768 ![0, 1] bcast_S128x1_S128x32768_0_1
    (Host.divf (broadcastInDim S128x1 ![0] bcast_S128_S128x1_0 (rowSum x))
      (broadcastInDim S128x1 ![] bcast_S_S128x1 c32768)))

/-- The divisor of the variance: 32768 less the one degree of freedom. -/
def dof : Vec F S_ .f32 := subf c32768 (sitofp .f32 (constantI S_ 32 1#32))

/-- A row's variance: the sum of the squares of the centred entries over the divisor, where that is positive. -/
def rowVar (x : Vec F S128x32768 .f32) : Vec F S128 .f32 :=
  select (broadcastInDim S128 ![] bcast_S_S128 (cmpf .ogt (dof (F := F)) c0))
    (Host.divf (rowSum (mulf (centred x) (centred x))) (broadcastInDim S128 ![] bcast_S_S128 dof))
    (broadcastInDim S128 ![] bcast_S_S128 (id (constant S_ .f32 0x7FC00000#32)))

/-- The mean over the 128 rows of the squared difference of two row statistics. -/
def meanSq (a b : Vec F S128 .f32) : Vec F S_ .f32 :=
  Host.divf (Host.reduceAdd (mulf (subf a b) (subf a b)) c0 reducesTo_S128_S_d0 h_S_) c128

/-- The reference's distance: the mean squared differences of means and of variances, added. -/
def distT (x y : Vec F S128x32768 .f32) : Vec F S_ .f32 :=
  addf (meanSq (rowMean x) (rowMean y)) (meanSq (rowVar x) (rowVar y))

/-- The row numbers, as the scatter's first index column. -/
def rowIx : Vec F S128x5x1 .i32 :=
  broadcastInDim S128x5x1 ![0, 1] bcast_S128x5_S128x5x1_0_1
    (broadcastInDim S128x5 ![0, 1] bcast_S128x1_S128x5_0_1
      (select (cmpi .slt (broadcastInDim S128x1 ![0] bcast_S128_S128x1_0 (iotaInDim S128 32 0))
          (broadcastInDim S128x1 ![] bcast_S_S128x1 (constantI S_ 32 0#32)))
        (addi (broadcastInDim S128x1 ![0] bcast_S128_S128x1_0 (iotaInDim S128 32 0))
          (broadcastInDim S128x1 ![] bcast_S_S128x1 (constantI S_ 32 128#32)))
        (broadcastInDim S128x1 ![0] bcast_S128_S128x1_0 (iotaInDim S128 32 0))))

/-- The positions of each row's five largest entries. -/
def top (x : Vec F S128x32768 .f32) : Vec F S128x5 .i32 :=
  (Host.topK S128x5 1 (FloatOps.cmpfTotal .gt) x sliceFits_S128x32768_S128x5).2

/-- Those positions, as the scatter's second index column. -/
def colIx (x : Vec F S128x32768 .f32) : Vec F S128x5x1 .i32 :=
  broadcastInDim S128x5x1 ![0, 1] bcast_S128x5_S128x5x1_0_1
    (select (cmpi .slt (top x) (broadcastInDim S128x5 ![] bcast_S_S128x5 (constantI S_ 32 0#32)))
      (addi (top x) (broadcastInDim S128x5 ![] bcast_S_S128x5 (constantI S_ 32 32768#32)))
      (top x))

/-- The array of zeros with a one at each of a row's five largest entries. -/
def pattern (x : Vec F S128x32768 .f32) : Vec F S128x32768 .f32 :=
  Host.scatter scatter_S128x32768_S128x5x2_S128x5_n_01_01_2 (fun _ b => b)
    (broadcastInDim S128x32768 ![] bcast_S_S128x32768 c0)
    (concatenate S128x5x2 2 [⟨S128x5x1, (rowIx : Vec F S128x5x1 .i32)⟩, ⟨S128x5x1, colIx x⟩]
      concatenates_S128x5x1_S128x5x1_S128x5x2_d2)
    (broadcastInDim S128x5 ![] bcast_S_S128x5 (constant S_ .f32 0x3F800000#32))

/-- The mean of that array over the rows. -/
def freq (x : Vec F S128x32768 .f32) : Vec F S32768 .f32 :=
  Host.divf (Host.reduceAdd (pattern x) c0 reducesTo_S128x32768_S32768_d0 h_S_)
    (broadcastInDim S32768 ![] bcast_S_S32768 c128)

/-- One number in every column. -/
def spread (v : Vec F S_ .f32) : Vec F S1 .f32 := broadcastInDim S1 ![] bcast_S_S1 v

/-- One number in every column, from an array of one. -/
def wide (v : Vec F S1 .f32) : Vec F S32768 .f32 := broadcastInDim S32768 ![0] bcast_S1_S32768_0 v

/-- The entries less their largest. -/
def shifted (p : Vec F S32768 .f32) : Vec F S32768 .f32 :=
  subf p (wide (spread (maximumf (constant S_ .f32 0xFF800000#32)
    (Host.reduce FloatOps.maximumf p (constant S_ .f32 0xFF800000#32) reducesTo_S32768_S_d0 h_S_))))

/-- The sum of an array of 32768. -/
def colSum (p : Vec F S32768 .f32) : Vec F S_ .f32 := Host.reduceAdd p c0 reducesTo_S32768_S_d0 h_S_

/-- The logarithm of the softmax. -/
def logSoftmax (p : Vec F S32768 .f32) : Vec F S32768 .f32 :=
  subf (shifted p) (wide (Host.log (spread (colSum (Host.exp (shifted p))))))

/-- The softmax. -/
def softmax (p : Vec F S32768 .f32) : Vec F S32768 .f32 :=
  Host.divf (Host.exp (shifted p)) (wide (spread (colSum (Host.exp (shifted p)))))

/-- The reference's correlation: the mean over the columns of `q · (log q − log p)`. -/
def corrT (p1 p2 : Vec F S32768 .f32) : Vec F S_ .f32 :=
  Host.divf (colSum (mulf (softmax p2) (subf (Host.log (softmax p2)) (logSoftmax p1)))) c32768

/-- The reference's total: both parts, each times one, added. -/
def totalT (d k : Vec F S_ .f32) : Vec F S_ .f32 :=
  addf (mulf (constant S_ .f32 0x3F800000#32) d) (mulf (constant S_ .f32 0x3F800000#32) k)

/-- The first argument as a table of 128 rows. -/
def R0 (m : (ℓ : Loc nD τ sig) → Buf (Elt F) ℓ) (c : Dev nD) : Vec F S128x32768 .f32 :=
  shapeCast S128x32768 (m ((c.tc : Thread nD τ).loc main_arg0)) shapeCasts_S128x32768x1_S128x32768

/-- The second argument as a table of 128 rows. -/
def R1 (m : (ℓ : Loc nD τ sig) → Buf (Elt F) ℓ) (c : Dev nD) : Vec F S128x32768 .f32 :=
  shapeCast S128x32768 (m ((c.tc : Thread nD τ).loc main_arg1)) shapeCasts_S128x32768x1_S128x32768

/-- The reference's distance result is the short term. -/
theorem out1_eq (m : (ℓ : Loc nD τ sig) → Buf (Elt F) ℓ) (c : Dev nD) :
    res_main_v18 m c = distT (R0 m c) (R1 m c) := rfl

/-- The reference's correlation result is the short term. -/
theorem out2_eq (m : (ℓ : Loc nD τ sig) → Buf (Elt F) ℓ) (c : Dev nD) :
    res_main_v78 m c = corrT (freq (R0 m c)) (freq (R1 m c)) := rfl

/-- The reference's total result is the short term. -/
theorem out0_eq (m : (ℓ : Loc nD τ sig) → Buf (Elt F) ℓ) (c : Dev nD) :
    res_main_v81 m c = totalT (distT (R0 m c) (R1 m c)) (corrT (freq (R0 m c)) (freq (R1 m c))) := rfl

end Cert.ReferenceIdeal.Value

end
-- ==== Proof.RefPattern.lean ====
/-
  The reference's pattern over the extended reals: the positions its top-k leaves are the positions five rounds of
  "pick the first largest entry and strike it out" pick, so its scatter leaves a one at exactly these columns of a row.
-/
module

public import proofs.«01_k».proof.Proof.RefTerm
public import proofs.«01_k».proof.Proof.Rows
public import Idealize.ShloMosaic.Lib.ScatterToDense.RefScatter
public import Idealize.ShloMosaic.Lib.Pointwise.IndexBridge

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.TopFive Cert.Rows

/-- A top-k along the rows of a table, the positions: in each row, the first places of the row's stable sort. -/
theorem topK_positions {α : Type} {n m K : ℕ} (gt : α → α → BitVec 1) (x : (⟨2, ![n, m]⟩ : Shape).Idx → α)
    (h : (⟨2, ![n, m]⟩ : Shape).Slices (fun _ => 0) ⟨2, ![n, K]⟩) (hK : K ≤ m) (r : Fin n) (i : Fin K) :
    (Host.topK ⟨2, ![n, K]⟩ 1 gt x h).2 (Idealize.ShloMosaic.ix2 r i)
      = BitVec.ofNat 32 (sortedFrom (fun k k' => gt (x (Idealize.ShloMosaic.ix2 r k)) (x (Idealize.ShloMosaic.ix2 r k')) == 1#1) (i.castLE hK)).val := by
  have hal : ∀ (j : (⟨2, ![n, m]⟩ : Shape).Idx) (k : Fin m), j 0 = r → Shape.Idx.along j (1 : Fin 2) k = Idealize.ShloMosaic.ix2 r k := by
    intro j k hj
    funext a
    match a with
    | ⟨0, h0⟩ => exact (Function.update_of_ne (a := (0 : Fin 2)) (by decide) _ _).trans hj
    | ⟨1, _⟩ => exact Function.update_self (1 : Fin 2) _ _
  unfold Host.topK Host.sort2
  dsimp only
  rw [dif_pos (show 1 < (⟨2, ![n, m]⟩ : Shape).rank from Nat.one_lt_two)]
  unfold extractStridedSlice
  dsimp only
  rw [dif_pos (show 1 < (⟨2, ![n, m]⟩ : Shape).rank from Nat.one_lt_two)]
  unfold iotaInDim
  have key : ∀ (A : Fin m → (⟨2, ![n, m]⟩ : Shape).Idx) (q : Fin m), A = (fun k => Idealize.ShloMosaic.ix2 r k) → q = i.castLE hK →
      BitVec.ofNat 32 (A (sortedFrom (fun k k' => gt (x (A k)) (x (A k')) == 1#1) q) 1).val
        = BitVec.ofNat 32 (sortedFrom (fun k k' => gt (x (Idealize.ShloMosaic.ix2 r k)) (x (Idealize.ShloMosaic.ix2 r k')) == 1#1) (i.castLE hK)).val := by
    rintro _ _ rfl rfl
    rfl
  exact key (fun k => Shape.Idx.along _ (1 : Fin 2) k) _ (funext fun k => hal _ k (Fin.ext (Nat.zero_add _))) (Fin.ext (Nat.zero_add _))

/-- The reference's top-k positions of a row whose entries all exceed -1. -/
theorem top_apply (x : Vec Ideal S128x32768 .f32) (r : Fin 128) (i : Fin 5)
    (hx : ∀ k, ((-1 : ℝ) : EReal) < row x r k) :
    top x (Idealize.ShloMosaic.ix2 r i) = BitVec.ofNat 32 (pick ((-1 : ℝ) : EReal) (row x r) i.val).val := by
  unfold top
  rw [topK_positions _ _ _ (by decide), sorted_eq_pick_of_value ((-1 : ℝ) : EReal) (row x r) hx _ (fun k k' => ?_) (by decide) i]
  show (BitVec.ofBool (decide (row x r k' < row x r k)) == 1#1) = _
  by_cases h : row x r k' < row x r k <;> simp [h]

/-- A position below 2³¹, as a word, is not negative, so the wrap of negative positions leaves it. -/
theorem wrap_position {n : ℕ} (hn : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- The scatter's first index column: the row number. -/
theorem rowIx_apply (r : Fin 128) (i : Fin 5) :
    (rowIx : Vec Ideal S128x5x1 .i32) (Idealize.ShloMosaic.ix3 r i 0) = BitVec.ofNat 32 r.val := by
  unfold rowIx
  pointwise
  exact wrap_position (by omega) _

/-- The scatter's second index column: the position picked. -/
theorem colIx_apply (x : Vec Ideal S128x32768 .f32) (r : Fin 128) (i : Fin 5)
    (hx : ∀ k, ((-1 : ℝ) : EReal) < row x r k) :
    colIx x (Idealize.ShloMosaic.ix3 r i 0) = BitVec.ofNat 32 (pick ((-1 : ℝ) : EReal) (row x r) i.val).val := by
  unfold colIx
  pointwise
  rw [top_apply x r i hx]
  exact wrap_position (by omega) _

/-- The reference's pattern: one where the column is among the five picked, zero elsewhere. -/
theorem pattern_apply (x : Vec Ideal S128x32768 .f32) (r : Fin 128) (j : Fin 32768)
    (hx : ∀ r k, ((-1 : ℝ) : EReal) < row x r k) :
    pattern x (Idealize.ShloMosaic.ix2 r j)
      = ∑ i ∈ Finset.range 5, if j = pick ((-1 : ℝ) : EReal) (row x r) i then (1 : EReal) else 0 := by
  have hs := ScatterToDense.scatter_eq_GS scatter_S128x32768_S128x5x2_S128x5_n_01_01_2 rfl rfl rfl (by decide) (by decide)
    (broadcastInDim S128x32768 ![] bcast_S_S128x32768 (c0 (F := Ideal)))
    (concatenate S128x5x2 2 [⟨S128x5x1, (rowIx : Vec Ideal S128x5x1 .i32)⟩, ⟨S128x5x1, colIx x⟩]
      concatenates_S128x5x1_S128x5x1_S128x5x2_d2)
    (broadcastInDim S128x5 ![] bcast_S_S128x5 (constant (F := Ideal) S_ .f32 0x3F800000#32))
    (fun r k => BitVec.ofNat 32 (pick ((-1 : ℝ) : EReal) (row x r) k).val) (fun _ _ => (1 : EReal))
    (fun i k => ?_) (fun i k => ?_) (fun i k => ?_) r j
  · unfold pattern
    rw [ix2_eq_valueIdx]
    refine hs.trans ?_
    rw [← ix2_eq_valueIdx]
    have hfill : broadcastInDim S128x32768 ![] bcast_S_S128x32768 (c0 (F := Ideal)) (Idealize.ShloMosaic.ix2 r j) = (0 : EReal) := by
      pointwise
    rw [hfill]
    unfold ScatterToDense.GS
    have hw : ∀ k, (j.val = (BitVec.ofNat 32 (pick ((-1 : ℝ) : EReal) (row x r) k).val).toNat) ↔ j = pick ((-1 : ℝ) : EReal) (row x r) k := by
      intro k
      have h1 := (pick ((-1 : ℝ) : EReal) (row x r) k).isLt
      rw [BitVec.toNat_ofNat, Nat.mod_eq_of_lt (by omega), Fin.ext_iff]
    rcases LaneScatter.lastHit_cases (fun k => j.val = (BitVec.ofNat 32 (pick ((-1 : ℝ) : EReal) (row x r) k).val).toNat)
      (fun _ => (1 : EReal)) 0 5 with ⟨k, hk, hh, -, hv⟩ | ⟨hn, hv⟩
    · refine hv.trans ?_
      have hjk := (hw k).mp hh
      rw [Finset.sum_eq_single_of_mem k (Finset.mem_range.mpr hk) fun i hi hik => if_neg fun e => ?_, if_pos hjk]
      have hi' := Finset.mem_range.mp hi
      rcases Nat.lt_or_gt_of_ne hik with h | h
      · exact pick_ne _ _ (hx r) h (by omega) (e.symm.trans hjk)
      · exact pick_ne _ _ (hx r) h (by omega) (hjk.symm.trans e)
    · refine hv.trans (Finset.sum_eq_zero fun i hi => if_neg fun e => hn i (Finset.mem_range.mp hi) ((hw i).mpr e)).symm
  · rw [← ix3_eq_valueIdx]
    pointwise
    exact rowIx_apply i k
  · rw [← ix3_eq_valueIdx]
    pointwise
    exact colIx_apply x i k (hx i)
  · rw [← ix2_eq_valueIdx]
    pointwise

end Cert.ReferenceIdeal.Value

end
-- ==== Proof.RefReads.lean ====
/-
  The reference's steps over the extended reals: its row means and variances, the shares of rows in which a column is picked,
  and its three results as the row statistics and the divergence of the shares.
-/
module

public import proofs.«01_k».proof.Proof.RefPattern
public import proofs.«01_k».proof.Proof.Counts
public import proofs.«01_k».proof.Proof.Variance
public import proofs.«01_k».proof.Proof.Divergence

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.TopFive Cert.Rows Cert.Counts Cert.Variance Cert.RealSums

/-- The number of columns, as the number of a row's entries. -/
theorem columns_cast : ((32768 : ℝ) : EReal) = (((32768 : ℕ) : ℝ) : EReal) := by norm_num

/-- The row means. -/
theorem rowMean_apply (x : Vec Ideal S128x32768 .f32) (r : Fin 128) :
    rowMean x (Idealize.ShloMosaic.ix1 r) = mean (row x r) := by
  unfold rowMean rowSum
  pointwise
  rw [Cert.Consts.columns, columns_cast]
  rfl

/-- The divisor of the variance is 32767. -/
theorem divisor : ((32768 : ℝ) : EReal) - (FloatOps.sitofp (F := Ideal) .f32 1#32 : EReal) = ((32767 : ℝ) : EReal) := by
  show ((32768 : ℝ) : EReal) - (((1 : ℤ) : ℝ) : EReal) = _
  rw [← EReal.coe_sub]
  norm_num

/-- The row variances. -/
theorem rowVar_apply (x : Vec Ideal S128x32768 .f32) (r : Fin 128) :
    rowVar x (Idealize.ShloMosaic.ix1 r) = twoPass 32767 (row x r) := by
  have hpos : (0 : EReal) < ((32767 : ℝ) : EReal) := by exact_mod_cast (by norm_num : (0 : ℝ) < 32767)
  unfold rowVar centred rowSum dof
  pointwise
  rw [Cert.Consts.columns]
  simp only [divisor]
  rw [if_pos hpos, columns_cast]
  rfl

/-- The mean over the rows of the squared differences of two row statistics. -/
theorem meanSq_apply (a b : Vec Ideal S128 .f32) (i : S_.Idx) :
    meanSq a b i = Ideal.div (∑ r : Fin 128, gap (a (Idealize.ShloMosaic.ix1 r)) (b (Idealize.ShloMosaic.ix1 r))) ((128 : ℝ) : EReal) := by
  unfold meanSq
  pointwise
  rw [Cert.Consts.rows]
  rfl

/-- The reference's distance. -/
theorem distT_apply (x y : Vec Ideal S128x32768 .f32) (i : S_.Idx) :
    distT x y i = Ideal.div (∑ r, gap (mean (row x r)) (mean (row y r))) ((128 : ℝ) : EReal)
        + Ideal.div (∑ r, gap (twoPass 32767 (row x r)) (twoPass 32767 (row y r))) ((128 : ℝ) : EReal) := by
  unfold distT
  show meanSq (rowMean x) (rowMean y) i + meanSq (rowVar x) (rowVar y) i = _
  rw [meanSq_apply, meanSq_apply]
  simp only [rowMean_apply, rowVar_apply]

/-- The pattern's mean over the rows is the share of rows in which the column is picked. -/
theorem freq_apply (x : Vec Ideal S128x32768 .f32) (hx : ∀ r k, ((-1 : ℝ) : EReal) < row x r k) (j : Fin 32768) :
    freq x (Idealize.ShloMosaic.ix1 j) = (share x j : EReal) := by
  unfold freq
  pointwise
  rw [Cert.Consts.rows, Ideal.div_coe (by norm_num), ← share_eq]
  simp only [pattern_apply x _ j hx]
  rfl

/-- The entries of an array of 32768, as a family. -/
def entries (p : Vec Ideal S32768 .f32) (j : Fin 32768) : EReal := p (Idealize.ShloMosaic.ix1 j)

/-- The entries less their largest. -/
theorem shifted_apply (p : Vec Ideal S32768 .f32) (j : Fin 32768) :
    shifted p (Idealize.ShloMosaic.ix1 j) = Cert.Divergence.shift (entries p) j := by
  unfold shifted wide spread
  pointwise
  rw [Cert.Consts.neg_inf]
  rfl

/-- The softmax. -/
theorem softmax_apply (p : Vec Ideal S32768 .f32) (j : Fin 32768) :
    softmax p (Idealize.ShloMosaic.ix1 j) = Cert.Divergence.soft (entries p) j := by
  unfold softmax wide spread colSum
  pointwise
  simp only [shifted_apply]
  rfl

/-- Its logarithm. -/
theorem logSoftmax_apply (p : Vec Ideal S32768 .f32) (j : Fin 32768) :
    logSoftmax p (Idealize.ShloMosaic.ix1 j) = Cert.Divergence.logSoft (entries p) j := by
  unfold logSoftmax wide spread colSum
  pointwise
  simp only [shifted_apply]
  rfl

/-- The sum of an array of 32768. -/
theorem colSum_apply (p : Vec Ideal S32768 .f32) (i : S_.Idx) : colSum p i = ∑ j : Fin 32768, entries p j := by
  unfold colSum
  pointwise
  rfl

/-- The reference's correlation of two arrays. -/
theorem corrT_apply (p q : Vec Ideal S32768 .f32) (i : S_.Idx) :
    corrT p q i = Ideal.div (Cert.Divergence.ofSoft (entries p) (entries q)) ((32768 : ℝ) : EReal) := by
  unfold corrT
  have hd : ∀ a b : FVec Ideal S_ .f32, Host.divf (F := Ideal) (s := S_) (φ := .f32) a b i = Ideal.div (a i) (b i) := fun _ _ => rfl
  have hc : c32768 (F := Ideal) i = ((32768 : ℝ) : EReal) := Cert.Consts.columns
  have ht : ∀ (a b : FVec Ideal S32768 .f32) (j : Fin 32768),
      entries (mulf a (subf (Host.log a) b)) j = entries a j * (Ideal.log (entries a j) - entries b j) := fun _ _ _ => rfl
  have hs : ∀ j, entries (softmax q) j = Cert.Divergence.soft (entries q) j := softmax_apply q
  have hl : ∀ j, entries (logSoftmax p) j = Cert.Divergence.logSoft (entries p) j := logSoftmax_apply p
  rw [hd, hc, colSum_apply]
  simp only [ht, hs, hl]
  rw [Cert.Divergence.ofSoft]

/-- The reference's correlation: the divergence of the shares, over the number of columns. -/
theorem corr_apply (x y : Vec Ideal S128x32768 .f32) (hx : ∀ r k, ((-1 : ℝ) : EReal) < row x r k)
    (hy : ∀ r k, ((-1 : ℝ) : EReal) < row y r k) (i : S_.Idx) :
    corrT (freq x) (freq y) i = Ideal.div ((Cert.Divergence.value (share x) (share y) : ℝ) : EReal) ((32768 : ℝ) : EReal) := by
  have ex : entries (freq x) = fun j => (share x j : EReal) := funext fun j => freq_apply x hx j
  have ey : entries (freq y) = fun j => (share y j : EReal) := funext fun j => freq_apply y hy j
  rw [corrT_apply, ex, ey, Cert.Divergence.ofSoft_eq]

/-- The reference's total is the sum of the two parts. -/
theorem totalT_apply (d k : Vec Ideal S_ .f32) (i : S_.Idx) : totalT d k i = d i + k i := by
  unfold totalT
  pointwise

end Cert.ReferenceIdeal.Value

end
-- ==== Proof.Equation.lean ====
/-
  The equation. Of two tables whose entries exceed minus one, the kernel's three results are the reference's: the distance
  (the two variances give the same squared differences), the correlation (both are the divergence of the same shares) and
  the total (their sum).
-/
module

public import proofs.«01_k».proof.Proof.BlockSums
public import proofs.«01_k».proof.Proof.RefReads

@[expose] public section

set_option maxRecDepth 16384

noncomputable section

open Idealize.ShloMosaic Idealize.ShloMosaic.TcCoe Idealize.SL.Sem

namespace Cert.Equation

open Cert.Rows Cert.Variance

variable (X Y : FVec Ideal ⟨2, ![128, 32768]⟩ .f32)
variable (hX : ∀ r k, ((-1 : ℝ) : EReal) < row X r k) (hY : ∀ r k, ((-1 : ℝ) : EReal) < row Y r k)

/-- The kernel's distance, a number. -/
def kernelDist : EReal :=
  Cert.KernelIdeal.Gen.k0_pay3 (F := Ideal) (Cert.KernelIdeal.Value.carried (F := Ideal) X Y 16).sm (Cert.KernelIdeal.Value.carried (F := Ideal) X Y 16).sv

/-- The kernel's correlation, a number. -/
def kernelCorr : EReal :=
  Cert.KernelIdeal.Gen.k0_pay2 (F := Ideal) (Cert.KernelIdeal.Value.carried (F := Ideal) X Y 16).hist1 (Cert.KernelIdeal.Value.carried (F := Ideal) X Y 16).hist2

include hX hY

/-- The two distances are equal. -/
theorem dist_eq (i) : kernelDist X Y = Cert.ReferenceIdeal.Value.distT (F := Ideal) X Y i := by
  unfold kernelDist
  rw [Cert.KernelIdeal.Value.dist_apply, Cert.ReferenceIdeal.Value.distT_apply]
  have e : ∀ r, gap (onePass 32767 (row X r)) (onePass 32767 (row Y r)) = gap (twoPass 32767 (row X r)) (twoPass 32767 (row Y r)) :=
    fun r => gap_eq 32767 (by norm_num) _ _ (fun k => (bot_le.trans_lt (hX r k)).ne') (fun k => (bot_le.trans_lt (hY r k)).ne')
  simp only [e]

/-- The two correlations are equal. -/
theorem corr_eq (i) :
    kernelCorr X Y = Cert.ReferenceIdeal.Value.corrT (F := Ideal) (Cert.ReferenceIdeal.Value.freq (F := Ideal) X) (Cert.ReferenceIdeal.Value.freq (F := Ideal) Y) i := by
  unfold kernelCorr
  rw [Cert.KernelIdeal.Value.corr_apply, Cert.ReferenceIdeal.Value.corr_apply X Y hX hY]

/-- The kernel's second result is the reference's distance. -/
theorem result1 : Cert.KernelIdeal.Value.scal (F := Ideal) 1 (Cert.KernelIdeal.Value.results (F := Ideal) X Y) = Cert.ReferenceIdeal.Value.distT (F := Ideal) X Y :=
  funext fun i => dist_eq X Y hX hY i

/-- The kernel's third result is the reference's correlation. -/
theorem result2 : Cert.KernelIdeal.Value.scal (F := Ideal) 2 (Cert.KernelIdeal.Value.results (F := Ideal) X Y)
    = Cert.ReferenceIdeal.Value.corrT (F := Ideal) (Cert.ReferenceIdeal.Value.freq (F := Ideal) X) (Cert.ReferenceIdeal.Value.freq (F := Ideal) Y) :=
  funext fun i => corr_eq X Y hX hY i

/-- The kernel's first result is the reference's total. -/
theorem result0 : Cert.KernelIdeal.Value.scal (F := Ideal) 0 (Cert.KernelIdeal.Value.results (F := Ideal) X Y)
    = Cert.ReferenceIdeal.Value.totalT (F := Ideal) (Cert.ReferenceIdeal.Value.distT (F := Ideal) X Y)
        (Cert.ReferenceIdeal.Value.corrT (F := Ideal) (Cert.ReferenceIdeal.Value.freq (F := Ideal) X) (Cert.ReferenceIdeal.Value.freq (F := Ideal) Y)) := by
  funext i
  rw [Cert.ReferenceIdeal.Value.totalT_apply, ← dist_eq X Y hX hY i, ← corr_eq X Y hX hY i]
  exact Cert.KernelIdeal.Value.pay4_apply _ _ _ _

end Cert.Equation

end
-- ==== Proof.PreReads.lean ====
/- The precondition read: every entry of both tables exceeds -1. -/
module

public import proofs.«01_k».proof.Pre_above_mask
public import proofs.«01_k».proof.Proof.Rows
public import Idealize.ShloMosaic.Lib.ReduceAll

@[expose] public section

noncomputable section

open Idealize.ShloMosaic

namespace Cert.Pre_above_mask

open Cert.Rows

/-- The shape facts the precondition states. -/
instance facts : Cert.Pre_above_mask.Facts where
  bcast_S_S128x32768x1 := by decide
  reducesTo_S128x32768x1_S_d0_1_2 := by decide
  h_S_ := by decide

/-- A comparison with minus one that came out true says the entry exceeds minus one. -/
theorem above_of_bit (a : EReal) (h : (FloatOps.cmpf (F := Ideal) (φ := .f32) .ogt a (FloatOps.ofBits .f32 0xBF800000#32)) = 1#1) :
    ((-1 : ℝ) : EReal) < a := by
  rw [← Cert.Consts.neg_one]
  exact (ofBool_eq_one _).mp h

/-- Where the precondition holds, every entry of both arrays exceeds minus one. -/
theorem above (x y : FVec Ideal S128x32768x1 .f32) (h : fn (F := Ideal) x y = fun _ => 1#1) :
    (∀ i, ((-1 : ℝ) : EReal) < x i) ∧ ∀ i, ((-1 : ℝ) : EReal) < y i := by
  have : Subsingleton S_.Idx := ⟨fun a b => funext fun d => d.elim0⟩
  have h0 := congrFun h Idealize.ShloMosaic.ix0
  unfold fn at h0
  obtain ⟨h1, h2⟩ := IntOp.andi_eq_one.mp h0
  exact ⟨fun i => above_of_bit _ (Host.reduce_andi_all _ _ _ _ _ h1 i), fun i => above_of_bit _ (Host.reduce_andi_all _ _ _ _ _ h2 i)⟩

/-- So does every row of the arrays recast as tables of 128 rows. -/
theorem row_above (x : FVec Ideal S128x32768x1 .f32) (hx : ∀ i, ((-1 : ℝ) : EReal) < x i)
    (h : S128x32768x1.ShapeCasts ⟨2, ![128, 32768]⟩) (r : Fin 128) (k : Fin 32768) :
    ((-1 : ℝ) : EReal) < row (shapeCast ⟨2, ![128, 32768]⟩ x h) r k :=
  hx _

end Cert.Pre_above_mask

end
-- ==== Proof.lean ====
/-
  The claims, assembled. The frames are the programs' runs read at their arguments; the idealization rewrote no operation;
  the two programs' results agree by `Proof/Equation.lean`, read through the kernel's run (`Proof/KernelRun.lean`), the
  reference's (`Proof/RefTerm.lean`) and the precondition (`Proof/PreReads.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.Equation
public import proofs.«01_k».proof.Proof.PreReads
public import Idealize.ShloMosaic.Init

@[expose] public section

set_option maxRecDepth 16384

noncomputable section

namespace Cert.Proof

open Idealize.ShloMosaic Idealize.ShloMosaic.TcCoe Idealize.SL.Sem

/-- The reference runs and leaves its arguments; it declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m g)

/-- Where every entry exceeds minus one, the kernel's three results are the reference's. -/
theorem results_agree : Cert.algebraic_KernelIdeal_ReferenceIdeal_pre_above_mask := by
  intro m g m' g' hpre hargs
  refine ⟨fun c => Cert.KernelIdeal.Value.scal 0 (Cert.KernelIdeal.Value.results (Cert.KernelIdeal.Value.X0 m c) (Cert.KernelIdeal.Value.X1 m c)),
    fun c => Cert.KernelIdeal.Value.scal 1 (Cert.KernelIdeal.Value.results (Cert.KernelIdeal.Value.X0 m c) (Cert.KernelIdeal.Value.X1 m c)),
    fun c => Cert.KernelIdeal.Value.scal 2 (Cert.KernelIdeal.Value.results (Cert.KernelIdeal.Value.X0 m c) (Cert.KernelIdeal.Value.X1 m c)), ?_, ?_⟩
  · exact (θ_run Cert.KernelIdeal.defs _ _).mono
      (fun r h c => ⟨(h.1 c).1, (h.1 c).2.1, (h.1 c).2.2, (h.2.1 c).1, (h.2.1 c).2⟩)
      (θ_run_and (Cert.KernelIdeal.Value.run (F := Ideal) m g) (Cert.KernelIdeal.Gen.frame (F := Ideal) m g))
  · refine (θ_run Cert.ReferenceIdeal.defs _ _).mono (fun r h c => ?_) (Cert.ReferenceIdeal.Value.run (F := Ideal) m' g')
    have hc := hpre c
    have hab := Cert.Pre_above_mask.above _ _ hc
    have hX : ∀ r k, ((-1 : ℝ) : EReal) < Cert.Rows.row (Cert.KernelIdeal.Value.X0 m c) r k :=
      Cert.Pre_above_mask.row_above _ hab.1 _
    have hY : ∀ r k, ((-1 : ℝ) : EReal) < Cert.Rows.row (Cert.KernelIdeal.Value.X1 m c) r k :=
      Cert.Pre_above_mask.row_above _ hab.2 _
    have e0 : Cert.ReferenceIdeal.Value.R0 m' c = Cert.KernelIdeal.Value.X0 m c := by
      unfold Cert.ReferenceIdeal.Value.R0 Cert.KernelIdeal.Value.X0
      rw [(hargs c).1]
    have e1 : Cert.ReferenceIdeal.Value.R1 m' c = Cert.KernelIdeal.Value.X1 m c := by
      unfold Cert.ReferenceIdeal.Value.R1 Cert.KernelIdeal.Value.X1
      rw [(hargs c).2]
    refine ⟨?_, ?_, ?_, (h c).2.2.2.1, (h c).2.2.2.2⟩
    · refine (h c).1.trans ((Cert.ReferenceIdeal.Value.out0_eq m' c).trans ?_)
      rw [e0, e1]
      exact (Cert.Equation.result0 _ _ hX hY).symm
    · refine (h c).2.1.trans ((Cert.ReferenceIdeal.Value.out1_eq m' c).trans ?_)
      rw [e0, e1]
      exact (Cert.Equation.result1 _ _ hX hY).symm
    · refine (h c).2.2.1.trans ((Cert.ReferenceIdeal.Value.out2_eq m' c).trans ?_)
      rw [e0, e1]
      exact (Cert.Equation.result2 _ _ hX hY).symm

/-- Everything claimed. -/
theorem claim : Cert.Claim :=
  ⟨Cert.Kernel.Gen.facts, Cert.KernelIdeal.Gen.facts, Cert.ReferenceIdeal.Gen.facts, Cert.Pre_above_mask.facts,
    fun m g _ => Cert.Kernel.Gen.frame m g,
    fun m g _ => Cert.KernelIdeal.Gen.frame m g,
    fun m g _ => Cert.KernelIdeal.Gen.frame m g,
    fun m g _ => frame_r m g,
    fun m g _ => frame_r m g,
    trivial,
    results_agree⟩

end Cert.Proof

end
